-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 8, 64]⟩ ⟨4, ![2, 128, 128, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 8, 64]⟩ ⟨4, ![2, 128, 128, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S16x16x512 : Shape := ⟨3, ![16, 16, 512]⟩
abbrev S16x512 : Shape := ⟨2, ![16, 512]⟩
abbrev S16 : Shape := ⟨1, ![16]⟩
abbrev S1x128x512 : Shape := ⟨3, ![1, 128, 512]⟩
abbrev S128x512 : Shape := ⟨2, ![128, 512]⟩
abbrev S128x64 : Shape := ⟨2, ![128, 64]⟩
abbrev S1x128x1x64 : Shape := ⟨4, ![1, 128, 1, 64]⟩
abbrev S64x128 : Shape := ⟨2, ![64, 128]⟩
abbrev S128x128 : Shape := ⟨2, ![128, 128]⟩
abbrev S128 : Shape := ⟨1, ![128]⟩
abbrev S128x1 : Shape := ⟨2, ![128, 1]⟩
abbrev S64x512 : Shape := ⟨2, ![64, 512]⟩
abbrev S8x16x512 : Shape := ⟨3, ![8, 16, 512]⟩
abbrev S_ : Shape := ⟨0, ![]⟩
abbrev S1 : Shape := ⟨1, ![1]⟩
abbrev S1x16x512 : Shape := ⟨3, ![1, 16, 512]⟩

abbrev nBuf : Space → Nat
  | .hbm => 6
  | .vmem => 11
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x8x64, .bf16⟩
  | .hbm, ⟨3, _⟩ => ⟨S2x128x8x64, .bf16⟩
  | .hbm, ⟨4, _⟩ => ⟨S512x512, .bf16⟩
  | .hbm, ⟨5, _⟩ => ⟨S16x16x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x128x8x64, .bf16⟩
  | .local _ .vmem, ⟨4, _⟩ => ⟨S2x128x8x64, .bf16⟩
  | .local _ .vmem, ⟨5, _⟩ => ⟨S16x16x512, .f32⟩
  | .local _ .vmem, ⟨6, _⟩ => ⟨S16x16x512, .f32⟩
  | .local _ .vmem, ⟨7, _⟩ => ⟨S16x16x512, .bf16⟩
  | .local _ .vmem, ⟨8, _⟩ => ⟨S16x16x512, .bf16⟩
  | .local _ .vmem, ⟨9, _⟩ => ⟨S16x512, .bf16⟩
  | .local _ .vmem, ⟨10, _⟩ => ⟨S16x16x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_263 : BitVec 32 := 1#32
  let v448 : BitVec 32 := Scalar.xori v2 c1_i32_263
  let c1_i32_265 : BitVec 32 := 1#32
  let v449 : BitVec 32 := Scalar.muli v448 c1_i32_265
  let v450 : BitVec 32 := Scalar.addi c0_i32 v449
  v450.toNat
def k0_dev2 (d0 : Dev nD) : Nat :=
  let c0_i32_268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v451 : BitVec 32 := Scalar.xori v2 c2_i32
  let c1_i32_267 : BitVec 32 := 1#32
  let v452 : BitVec 32 := Scalar.muli v451 c1_i32_267
  let v453 : BitVec 32 := Scalar.addi c0_i32_268 v452
  v453.toNat
def k0_dev3 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v454 : BitVec 32 := Scalar.xori v2 c3_i32
  let c1_i32_270 : BitVec 32 := 1#32
  let v455 : BitVec 32 := Scalar.muli v454 c1_i32_270
  let v456 : BitVec 32 := Scalar.addi c0_i32_271 v455
  v456.toNat
def k0_dev4 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v457 : BitVec 32 := Scalar.xori v2 c4_i32
  let c1_i32_273 : BitVec 32 := 1#32
  let v458 : BitVec 32 := Scalar.muli v457 c1_i32_273
  let v459 : BitVec 32 := Scalar.addi c0_i32_274 v458
  v459.toNat
def k0_dev5 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v460 : BitVec 32 := Scalar.xori v2 c5_i32
  let c1_i32_276 : BitVec 32 := 1#32
  let v461 : BitVec 32 := Scalar.muli v460 c1_i32_276
  let v462 : BitVec 32 := Scalar.addi c0_i32_277 v461
  v462.toNat
def k0_dev6 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v463 : BitVec 32 := Scalar.xori v2 c6_i32
  let c1_i32_279 : BitVec 32 := 1#32
  let v464 : BitVec 32 := Scalar.muli v463 c1_i32_279
  let v465 : BitVec 32 := Scalar.addi c0_i32_280 v464
  v465.toNat
def k0_dev7 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v466 : BitVec 32 := Scalar.xori v2 c7_i32
  let c1_i32_282 : BitVec 32 := 1#32
  let v467 : BitVec 32 := Scalar.muli v466 c1_i32_282
  let v468 : BitVec 32 := Scalar.addi c0_i32_283 v467
  v468.toNat
def k0_dev8 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v469 : BitVec 32 := Scalar.xori v2 c8_i32
  let c1_i32_285 : BitVec 32 := 1#32
  let v470 : BitVec 32 := Scalar.muli v469 c1_i32_285
  let v471 : BitVec 32 := Scalar.addi c0_i32_286 v470
  v471.toNat
def k0_dev9 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v472 : BitVec 32 := Scalar.xori v2 c9_i32
  let c1_i32_288 : BitVec 32 := 1#32
  let v473 : BitVec 32 := Scalar.muli v472 c1_i32_288
  let v474 : BitVec 32 := Scalar.addi c0_i32_289 v473
  v474.toNat
def k0_dev10 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v475 : BitVec 32 := Scalar.xori v2 c10_i32
  let c1_i32_291 : BitVec 32 := 1#32
  let v476 : BitVec 32 := Scalar.muli v475 c1_i32_291
  let v477 : BitVec 32 := Scalar.addi c0_i32_292 v476
  v477.toNat
def k0_dev11 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v478 : BitVec 32 := Scalar.xori v2 c11_i32
  let c1_i32_294 : BitVec 32 := 1#32
  let v479 : BitVec 32 := Scalar.muli v478 c1_i32_294
  let v480 : BitVec 32 := Scalar.addi c0_i32_295 v479
  v480.toNat
def k0_dev12 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v481 : BitVec 32 := Scalar.xori v2 c12_i32
  let c1_i32_297 : BitVec 32 := 1#32
  let v482 : BitVec 32 := Scalar.muli v481 c1_i32_297
  let v483 : BitVec 32 := Scalar.addi c0_i32_298 v482
  v483.toNat
def k0_dev13 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v484 : BitVec 32 := Scalar.xori v2 c13_i32
  let c1_i32_300 : BitVec 32 := 1#32
  let v485 : BitVec 32 := Scalar.muli v484 c1_i32_300
  let v486 : BitVec 32 := Scalar.addi c0_i32_301 v485
  v486.toNat
def k0_dev14 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v487 : BitVec 32 := Scalar.xori v2 c14_i32
  let c1_i32_303 : BitVec 32 := 1#32
  let v488 : BitVec 32 := Scalar.muli v487 c1_i32_303
  let v489 : BitVec 32 := Scalar.addi c0_i32_304 v488
  v489.toNat
def k0_dev15 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v490 : BitVec 32 := Scalar.xori v2 c15_i32
  let c1_i32_306 : BitVec 32 := 1#32
  let v491 : BitVec 32 := Scalar.muli v490 c1_i32_306
  let v492 : BitVec 32 := Scalar.addi c0_i32_307 v491
  v492.toNat
def k0_off1 (d0 : Dev nD) (c1_i32_309 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v493 : BitVec 32 := Scalar.xori v2 c1_i32_309
  let c0_i32_317 : BitVec 32 := 0#32
  let c0_i32_318 : BitVec 32 := 0#32
  ![v493.toNat, 0, 0]
def k0_dev16 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_309 : BitVec 32 := 1#32
  let v493 : BitVec 32 := Scalar.xori v2 c1_i32_309
  let c1_i32_313 : BitVec 32 := 1#32
  let v494 : BitVec 32 := Scalar.muli v493 c1_i32_313
  let v495 : BitVec 32 := Scalar.addi c0_i32_314 v494
  v495.toNat
def k0_dev17 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_319 : BitVec 32 := 2#32
  let v504 : BitVec 32 := Scalar.xori v2 c2_i32_319
  let c1_i32_323 : BitVec 32 := 1#32
  let v505 : BitVec 32 := Scalar.muli v504 c1_i32_323
  let v506 : BitVec 32 := Scalar.addi c0_i32_324 v505
  v506.toNat
def k0_dev18 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_329 : BitVec 32 := 3#32
  let v515 : BitVec 32 := Scalar.xori v2 c3_i32_329
  let c1_i32_333 : BitVec 32 := 1#32
  let v516 : BitVec 32 := Scalar.muli v515 c1_i32_333
  let v517 : BitVec 32 := Scalar.addi c0_i32_334 v516
  v517.toNat
def k0_dev19 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_339 : BitVec 32 := 4#32
  let v526 : BitVec 32 := Scalar.xori v2 c4_i32_339
  let c1_i32_343 : BitVec 32 := 1#32
  let v527 : BitVec 32 := Scalar.muli v526 c1_i32_343
  let v528 : BitVec 32 := Scalar.addi c0_i32_344 v527
  v528.toNat
def k0_dev20 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_349 : BitVec 32 := 5#32
  let v537 : BitVec 32 := Scalar.xori v2 c5_i32_349
  let c1_i32_353 : BitVec 32 := 1#32
  let v538 : BitVec 32 := Scalar.muli v537 c1_i32_353
  let v539 : BitVec 32 := Scalar.addi c0_i32_354 v538
  v539.toNat
def k0_dev21 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_359 : BitVec 32 := 6#32
  let v548 : BitVec 32 := Scalar.xori v2 c6_i32_359
  let c1_i32_363 : BitVec 32 := 1#32
  let v549 : BitVec 32 := Scalar.muli v548 c1_i32_363
  let v550 : BitVec 32 := Scalar.addi c0_i32_364 v549
  v550.toNat
def k0_dev22 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_369 : BitVec 32 := 7#32
  let v559 : BitVec 32 := Scalar.xori v2 c7_i32_369
  let c1_i32_373 : BitVec 32 := 1#32
  let v560 : BitVec 32 := Scalar.muli v559 c1_i32_373
  let v561 : BitVec 32 := Scalar.addi c0_i32_374 v560
  v561.toNat
def k0_dev23 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_379 : BitVec 32 := 8#32
  let v570 : BitVec 32 := Scalar.xori v2 c8_i32_379
  let c1_i32_383 : BitVec 32 := 1#32
  let v571 : BitVec 32 := Scalar.muli v570 c1_i32_383
  let v572 : BitVec 32 := Scalar.addi c0_i32_384 v571
  v572.toNat
def k0_dev24 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_389 : BitVec 32 := 9#32
  let v581 : BitVec 32 := Scalar.xori v2 c9_i32_389
  let c1_i32_393 : BitVec 32 := 1#32
  let v582 : BitVec 32 := Scalar.muli v581 c1_i32_393
  let v583 : BitVec 32 := Scalar.addi c0_i32_394 v582
  v583.toNat
def k0_dev25 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_399 : BitVec 32 := 10#32
  let v592 : BitVec 32 := Scalar.xori v2 c10_i32_399
  let c1_i32_403 : BitVec 32 := 1#32
  let v593 : BitVec 32 := Scalar.muli v592 c1_i32_403
  let v594 : BitVec 32 := Scalar.addi c0_i32_404 v593
  v594.toNat
def k0_dev26 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_409 : BitVec 32 := 11#32
  let v603 : BitVec 32 := Scalar.xori v2 c11_i32_409
  let c1_i32_413 : BitVec 32 := 1#32
  let v604 : BitVec 32 := Scalar.muli v603 c1_i32_413
  let v605 : BitVec 32 := Scalar.addi c0_i32_414 v604
  v605.toNat
def k0_dev27 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_419 : BitVec 32 := 12#32
  let v614 : BitVec 32 := Scalar.xori v2 c12_i32_419
  let c1_i32_423 : BitVec 32 := 1#32
  let v615 : BitVec 32 := Scalar.muli v614 c1_i32_423
  let v616 : BitVec 32 := Scalar.addi c0_i32_424 v615
  v616.toNat
def k0_dev28 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_429 : BitVec 32 := 13#32
  let v625 : BitVec 32 := Scalar.xori v2 c13_i32_429
  let c1_i32_433 : BitVec 32 := 1#32
  let v626 : BitVec 32 := Scalar.muli v625 c1_i32_433
  let v627 : BitVec 32 := Scalar.addi c0_i32_434 v626
  v627.toNat
def k0_dev29 (d0 : Dev nD) : Nat :=
  let c0_i32_444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_439 : BitVec 32 := 14#32
  let v636 : BitVec 32 := Scalar.xori v2 c14_i32_439
  let c1_i32_443 : BitVec 32 := 1#32
  let v637 : BitVec 32 := Scalar.muli v636 c1_i32_443
  let v638 : BitVec 32 := Scalar.addi c0_i32_444 v637
  v638.toNat
def k0_dev30 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_449 : BitVec 32 := 15#32
  let v647 : BitVec 32 := Scalar.xori v2 c15_i32_449
  let c1_i32_453 : BitVec 32 := 1#32
  let v648 : BitVec 32 := Scalar.muli v647 c1_i32_453
  let v649 : BitVec 32 := Scalar.addi c0_i32_454 v648
  v649.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v658 : Index := Scalar.indexCast v2
  let c0_459 : Index := 0#32
  let c0_460 : Index := 0#32
  ![v658.toNat, 0, 0]
def k0_dev31 (d0 : Dev nD) : Nat :=
  let c0_i32_641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_636 : BitVec 32 := 1#32
  let v845 : BitVec 32 := Scalar.xori v2 c1_i32_636
  let c1_i32_640 : BitVec 32 := 1#32
  let v846 : BitVec 32 := Scalar.muli v845 c1_i32_640
  let v847 : BitVec 32 := Scalar.addi c0_i32_641 v846
  v847.toNat
def k0_dev32 (d0 : Dev nD) : Nat :=
  let c0_i32_649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_644 : BitVec 32 := 2#32
  let v854 : BitVec 32 := Scalar.xori v2 c2_i32_644
  let c1_i32_648 : BitVec 32 := 1#32
  let v855 : BitVec 32 := Scalar.muli v854 c1_i32_648
  let v856 : BitVec 32 := Scalar.addi c0_i32_649 v855
  v856.toNat
def k0_dev33 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_652 : BitVec 32 := 3#32
  let v863 : BitVec 32 := Scalar.xori v2 c3_i32_652
  let c1_i32_656 : BitVec 32 := 1#32
  let v864 : BitVec 32 := Scalar.muli v863 c1_i32_656
  let v865 : BitVec 32 := Scalar.addi c0_i32_657 v864
  v865.toNat
def k0_dev34 (d0 : Dev nD) : Nat :=
  let c0_i32_665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_660 : BitVec 32 := 4#32
  let v872 : BitVec 32 := Scalar.xori v2 c4_i32_660
  let c1_i32_664 : BitVec 32 := 1#32
  let v873 : BitVec 32 := Scalar.muli v872 c1_i32_664
  let v874 : BitVec 32 := Scalar.addi c0_i32_665 v873
  v874.toNat
def k0_dev35 (d0 : Dev nD) : Nat :=
  let c0_i32_673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_668 : BitVec 32 := 5#32
  let v881 : BitVec 32 := Scalar.xori v2 c5_i32_668
  let c1_i32_672 : BitVec 32 := 1#32
  let v882 : BitVec 32 := Scalar.muli v881 c1_i32_672
  let v883 : BitVec 32 := Scalar.addi c0_i32_673 v882
  v883.toNat
def k0_dev36 (d0 : Dev nD) : Nat :=
  let c0_i32_681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_676 : BitVec 32 := 6#32
  let v890 : BitVec 32 := Scalar.xori v2 c6_i32_676
  let c1_i32_680 : BitVec 32 := 1#32
  let v891 : BitVec 32 := Scalar.muli v890 c1_i32_680
  let v892 : BitVec 32 := Scalar.addi c0_i32_681 v891
  v892.toNat
def k0_dev37 (d0 : Dev nD) : Nat :=
  let c0_i32_689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_684 : BitVec 32 := 7#32
  let v899 : BitVec 32 := Scalar.xori v2 c7_i32_684
  let c1_i32_688 : BitVec 32 := 1#32
  let v900 : BitVec 32 := Scalar.muli v899 c1_i32_688
  let v901 : BitVec 32 := Scalar.addi c0_i32_689 v900
  v901.toNat
def k0_dev38 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_692 : BitVec 32 := 8#32
  let v908 : BitVec 32 := Scalar.xori v2 c8_i32_692
  let c1_i32_696 : BitVec 32 := 1#32
  let v909 : BitVec 32 := Scalar.muli v908 c1_i32_696
  let v910 : BitVec 32 := Scalar.addi c0_i32_697 v909
  v910.toNat
def k0_dev39 (d0 : Dev nD) : Nat :=
  let c0_i32_705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_700 : BitVec 32 := 9#32
  let v917 : BitVec 32 := Scalar.xori v2 c9_i32_700
  let c1_i32_704 : BitVec 32 := 1#32
  let v918 : BitVec 32 := Scalar.muli v917 c1_i32_704
  let v919 : BitVec 32 := Scalar.addi c0_i32_705 v918
  v919.toNat
def k0_dev40 (d0 : Dev nD) : Nat :=
  let c0_i32_713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_708 : BitVec 32 := 10#32
  let v926 : BitVec 32 := Scalar.xori v2 c10_i32_708
  let c1_i32_712 : BitVec 32 := 1#32
  let v927 : BitVec 32 := Scalar.muli v926 c1_i32_712
  let v928 : BitVec 32 := Scalar.addi c0_i32_713 v927
  v928.toNat
def k0_dev41 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_716 : BitVec 32 := 11#32
  let v935 : BitVec 32 := Scalar.xori v2 c11_i32_716
  let c1_i32_720 : BitVec 32 := 1#32
  let v936 : BitVec 32 := Scalar.muli v935 c1_i32_720
  let v937 : BitVec 32 := Scalar.addi c0_i32_721 v936
  v937.toNat
def k0_dev42 (d0 : Dev nD) : Nat :=
  let c0_i32_729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_724 : BitVec 32 := 12#32
  let v944 : BitVec 32 := Scalar.xori v2 c12_i32_724
  let c1_i32_728 : BitVec 32 := 1#32
  let v945 : BitVec 32 := Scalar.muli v944 c1_i32_728
  let v946 : BitVec 32 := Scalar.addi c0_i32_729 v945
  v946.toNat
def k0_dev43 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_732 : BitVec 32 := 13#32
  let v953 : BitVec 32 := Scalar.xori v2 c13_i32_732
  let c1_i32_736 : BitVec 32 := 1#32
  let v954 : BitVec 32 := Scalar.muli v953 c1_i32_736
  let v955 : BitVec 32 := Scalar.addi c0_i32_737 v954
  v955.toNat
def k0_dev44 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_740 : BitVec 32 := 14#32
  let v962 : BitVec 32 := Scalar.xori v2 c14_i32_740
  let c1_i32_744 : BitVec 32 := 1#32
  let v963 : BitVec 32 := Scalar.muli v962 c1_i32_744
  let v964 : BitVec 32 := Scalar.addi c0_i32_745 v963
  v964.toNat
def k0_dev45 (d0 : Dev nD) : Nat :=
  let c0_i32_753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_748 : BitVec 32 := 15#32
  let v971 : BitVec 32 := Scalar.xori v2 c15_i32_748
  let c1_i32_752 : BitVec 32 := 1#32
  let v972 : BitVec 32 := Scalar.muli v971 c1_i32_752
  let v973 : BitVec 32 := Scalar.addi c0_i32_753 v972
  v973.toNat
def k0_off3 (d0 : Dev nD) (c1_i32_768 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v993 : BitVec 32 := Scalar.xori v2 c1_i32_768
  let v994 : Index := Scalar.indexCast v993
  let c0_769 : Index := 0#32
  let c0_770 : Index := 0#32
  ![v994.toNat, 0, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x128x128x64 : Shape := ⟨4, ![2, 128, 128, 64]⟩
abbrev S8192x512 : Shape := ⟨2, ![8192, 512]⟩
abbrev S2x128x8192 : Shape := ⟨3, ![2, 128, 8192]⟩
abbrev S_ : Shape := ⟨0, ![]⟩
abbrev S2x128x128x1 : Shape := ⟨4, ![2, 128, 128, 1]⟩
abbrev S2x128x128x128 : Shape := ⟨4, ![2, 128, 128, 128]⟩
abbrev S2x128x128 : Shape := ⟨3, ![2, 128, 128]⟩
abbrev S2x128x64x128 : Shape := ⟨4, ![2, 128, 64, 128]⟩
abbrev S16x16x512 : Shape := ⟨3, ![16, 16, 512]⟩

abbrev nBuf : Space → Nat
  | .hbm => 48
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x8192, .bf16⟩
  | .hbm, ⟨2, _⟩ => ⟨S2x128x128x64, .bf16⟩
  | .hbm, ⟨3, _⟩ => ⟨S2x128x128x64, .bf16⟩
  | .hbm, ⟨4, _⟩ => ⟨S8192x512, .bf16⟩
  | .hbm, ⟨5, _⟩ => ⟨S2x128x512, .f32⟩
  | .hbm, ⟨6, _⟩ => ⟨S512x8192, .f32⟩
  | .hbm, ⟨7, _⟩ => ⟨S2x128x128x64, .f32⟩
  | .hbm, ⟨8, _⟩ => ⟨S2x128x128x64, .f32⟩
  | .hbm, ⟨9, _⟩ => ⟨S8192x512, .f32⟩
  | .hbm, ⟨10, _⟩ => ⟨S2x128x8192, .f32⟩
  | .hbm, ⟨11, _⟩ => ⟨S2x128x128x64, .f32⟩
  | .hbm, ⟨12, _⟩ => ⟨S_, .f32⟩
  | .hbm, ⟨13, _⟩ => ⟨S2x128x128x64, .f32⟩
  | .hbm, ⟨14, _⟩ => ⟨S_, .f32⟩
  | .hbm, ⟨15, _⟩ => ⟨S2x128x128x1, .f32⟩
  | .hbm, ⟨16, _⟩ => ⟨S_, .f32⟩
  | .hbm, ⟨17, _⟩ => ⟨S2x128x128x1, .f32⟩
  | .hbm, ⟨18, _⟩ => ⟨S2x128x128x128, .f32⟩
  | .hbm, ⟨19, _⟩ => ⟨S_, .f32⟩
  | .hbm, ⟨20, _⟩ => ⟨S2x128x128x128, .f32⟩
  | .hbm, ⟨21, _⟩ => ⟨S2x128x128x128, .f32⟩
  | .hbm, ⟨22, _⟩ => ⟨S_, .f32⟩
  | .hbm, ⟨23, _⟩ => ⟨S2x128x128, .f32⟩
  | .hbm, ⟨24, _⟩ => ⟨S2x128x128x1, .f32⟩
  | .hbm, ⟨25, _⟩ => ⟨S2x128x128x1, .f32⟩
  | .hbm, ⟨26, _⟩ => ⟨S2x128x128x1, .f32⟩
  | .hbm, ⟨27, _⟩ => ⟨S2x128x128x1, .f32⟩
  | .hbm, ⟨28, _⟩ => ⟨S2x128x128x128, .f32⟩
  | .hbm, ⟨29, _⟩ => ⟨S2x128x128x128, .f32⟩
  | .hbm, ⟨30, _⟩ => ⟨S2x128x128x128, .f32⟩
  | .hbm, ⟨31, _⟩ => ⟨S2x128x128x1, .f32⟩
  | .hbm, ⟨32, _⟩ => ⟨S_, .f32⟩
  | .hbm, ⟨33, _⟩ => ⟨S2x128x128, .f32⟩
  | .hbm, ⟨34, _⟩ => ⟨S2x128x128x1, .f32⟩
  | .hbm, ⟨35, _⟩ => ⟨S2x128x128x1, .f32⟩
  | .hbm, ⟨36, _⟩ => ⟨S2x128x128x1, .f32⟩
  | .hbm, ⟨37, _⟩ => ⟨S2x128x128x64, .f32⟩
  | .hbm, ⟨38, _⟩ => ⟨S2x128x128x64, .f32⟩
  | .hbm, ⟨39, _⟩ => ⟨S2x128x64x128, .f32⟩
  | .hbm, ⟨40, _⟩ => ⟨S2x128x128x64, .f32⟩
  | .hbm, ⟨41, _⟩ => ⟨S2x128x128x64, .f32⟩
  | .hbm, ⟨42, _⟩ => ⟨S2x128x128x1, .f32⟩
  | .hbm, ⟨43, _⟩ => ⟨S2x128x128x64, .f32⟩
  | .hbm, ⟨44, _⟩ => ⟨S2x128x128x64, .f32⟩
  | .hbm, ⟨45, _⟩ => ⟨S2x128x8192, .f32⟩
  | .hbm, ⟨46, _⟩ => ⟨S2x128x512, .f32⟩
  | .hbm, ⟨47, _⟩ => ⟨S16x16x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.KernelIdeal.Proto.lean ====
/-
  How the sixteen devices talk during one run of the kernel: the semaphores they share, who raises each one,
  by how much, and what each raise hands to the device that waits for it.

  Device `c` calls device `pr c o` its peer number `o` (`o = 1 … 15`); peers are mutual: `c` is peer `o` of its
  peer `o`. The talk has three parts.

  * The barrier. Every device raises every peer's barrier semaphore by one and waits for fifteen. With its raise
    a device hands peer `o` slot `o` of its two landing buffers, so that the peer may copy into them.
  * The scatter. Device `c` copies slot `pr c o` of its staged partial sums into slot `o` of peer `o`'s first
    landing buffer, and waits for the fifteen copies that its own peers made.
  * The gather. Device `c` copies its finished chunk into slot `o` of peer `o`'s second landing buffer, and waits
    for the fifteen chunks that its own peers made.

  The contents are parameters here: `T d` is what device `d` staged, `A d` the chunk that device `d` finished.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.ValueLayout
public import Idealize.ShloMosaic.Lib.Tactic
public import Idealize.SL.BI.BigOpNat

@[expose] public section

noncomputable section

namespace Cert.KernelIdeal.Xch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The talk's own ghost state: a cell's duties are numbered. -/
abbrev UB : Type := URounds (GSem nD τ sig) ℕ
/-- The pipeline's ghost state and the talk's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers -/

set_option backward.proofsInPublic true in
/-- Peer number `o` of device `c`. -/
def pr (c : Dev nD) (o : ℕ) : Dev nD := ⟨(c.val ^^^ o) % 16, Nat.mod_lt _ (by decide)⟩

theorem pr_fin : ∀ (c : Dev nD) (o : Fin 16), pr (pr c o.val) o.val = c := by decide +kernel
theorem pr_pr (c : Dev nD) {o : ℕ} (h : o < 16) : pr (pr c o) o = c := pr_fin c ⟨o, h⟩
theorem pr_zero : ∀ c : Dev nD, pr c 0 = c := by decide +kernel
theorem pr_ne_fin : ∀ (c : Dev nD) (o o' : Fin 16), pr c o.val = pr c o'.val → o = o' := by decide +kernel
theorem pr_inj (c : Dev nD) {o o' : ℕ} (h : o < 16) (h' : o' < 16) (e : pr c o = pr c o') : o = o' :=
  congrArg Fin.val (pr_ne_fin c ⟨o, h⟩ ⟨o', h'⟩ e)
/-- Every device is some peer of `c`, number zero being `c` itself. -/
theorem pr_surj : ∀ (c j : Dev nD), ∃ o : Fin 16, pr c o.val = j := by decide +kernel
theorem pr_val_lt (c : Dev nD) (o : ℕ) : (pr c o).val < 16 := (pr c o).isLt

/-- Passing to peer `o` is its own inverse. -/
def swap (o : Fin 16) : Dev nD ≃ Dev nD := ⟨fun c => pr c o.val, fun c => pr c o.val, fun c => pr_pr c o.isLt, fun c => pr_pr c o.isLt⟩

/-! ## Semaphores and cells -/

/-- The barrier semaphore, one per device. -/
abbrev barS : Sem sig := (SemArray.scalar (sig.barrier 0 rfl) : Sems sig S_).sem

set_option backward.proofsInPublic true in
/-- Semaphore `o` of array `a`: the scatter's source side (`a = 0`) and landing side (`1`), the gather's source
    side (`2`) and landing side (`3`). -/
def ds (a o : ℕ) : DmaSem sig := ⟨6 + (16 * a + o) % 64, by have := Nat.mod_lt (16 * a + o) (show 0 < 64 by decide); show _ < 70; omega⟩

abbrev barCell (c : Dev nD) : GSem nD τ sig := ((c : Thread nD τ), .reg barS)
abbrev cel (a : ℕ) (c : Dev nD) (o : ℕ) : GSem nD τ sig := ((c : Thread nD τ), .dma (ds a o))

theorem ds_inj {a a' o o' : ℕ} (ha : a < 4) (ha' : a' < 4) (ho : o < 16) (ho' : o' < 16) (h : ds a o = ds a' o') : a = a' ∧ o = o' := by
  have := congrArg Fin.val h
  unfold ds at this
  simp only at this
  omega

/-! ## Slots -/

/-- The elements of slot `j` of a buffer of sixteen slots. -/
def slotSet (j : ℕ) : Finset (S16x16x512.Idx) := Finset.univ.filter fun i => (i 0).val = j

theorem mem_slotSet {j : ℕ} {i : S16x16x512.Idx} : i ∈ slotSet j ↔ (i 0).val = j := by simp [slotSet]

theorem slotSet_disjoint {j j' : ℕ} (h : j ≠ j') : Disjoint (slotSet j) (slotSet j') :=
  Finset.disjoint_left.mpr fun i hi hi' => h ((mem_slotSet.mp hi).symm.trans (mem_slotSet.mp hi'))

theorem slot_inb {j : ℕ} (h : j < 16) : ∀ a, (![j, 0, 0] : Fin 3 → ℕ) a + S1x16x512.size a ≤ S16x16x512.size a := by
  intro a; fin_cases a
  · show j + 1 ≤ 16; omega
  · show 0 + 16 ≤ 16; omega
  · show 0 + 512 ≤ 512; omega

/-- Slot `j` as a rectangle. -/
abbrev slotRect (j : ℕ) (h : j < 16) : Rect S16x16x512 := Rect.unit (s := S16x16x512) ![j, 0, 0] S1x16x512.size (slot_inb h)

theorem slotRect_set {off : Fin 3 → ℕ} {j : ℕ} (hoff : off = ![j, 0, 0]) (inb : ∀ a, off a + S1x16x512.size a ≤ S16x16x512.size a) :
    (Rect.unit (s := S16x16x512) off S1x16x512.size inb).set = slotSet j := by
  subst hoff
  ext i
  rw [Rect.mem_set_unit, mem_slotSet]
  constructor
  · intro h
    have h0 := h 0
    have e1 : (![j, 0, 0] : Fin 3 → ℕ) 0 = j := rfl
    have e2 : S1x16x512.size 0 = 1 := rfl
    rw [e1, e2] at h0
    omega
  · intro h a
    fin_cases a
    · show j ≤ (i 0).val ∧ (i 0).val < j + 1; omega
    · exact ⟨Nat.zero_le _, by show (i 1).val < 0 + 16; have := (i 1).isLt; have e : S16x16x512.size 1 = 16 := rfl; omega⟩
    · exact ⟨Nat.zero_le _, by show (i 2).val < 0 + 512; have := (i 2).isLt; have e : S16x16x512.size 2 = 512 := rfl; omega⟩

/-- The contents of a buffer of sixteen slots. -/
abbrev Slots (F : FTy → Type) (e : EltTy) : Type := S16x16x512.Idx → Elt F e
/-- The contents of one chunk. -/
abbrev Chunk (F : FTy → Type) (e : EltTy) : Type := S16x512.Idx → Elt F e

/-- The element of slot `j` at the same place in its slot as `i` in its own. -/
def moveTo (j : Dev nD) (i : S16x16x512.Idx) : S16x16x512.Idx := ValueIdx.ix3 (⟨j.val, j.isLt⟩ : Fin 16) ⟨(i 1).val, (i 1).isLt⟩ ⟨(i 2).val, (i 2).isLt⟩
/-- The place of `i` in its slot. -/
def inSlot (i : S16x16x512.Idx) : S16x512.Idx := ValueIdx.ix2 (⟨(i 1).val, (i 1).isLt⟩ : Fin 16) (⟨(i 2).val, (i 2).isLt⟩ : Fin 512)
/-- The device whose number is `i`'s slot. -/
def slotDev (i : S16x16x512.Idx) : Dev nD := ⟨(i 0).val, (i 0).isLt⟩

/-- What the scatter leaves in device `c`'s first landing buffer: in slot `o`, slot `c` of what peer `o` staged. -/
def landA (T : Dev nD → Slots F .bf16) (c : Dev nD) : Slots F .bf16 := fun i => T (pr c (i 0).val) (moveTo c i)
/-- What the gather leaves in device `c`'s second landing buffer: in slot `o`, the chunk that peer `o` finished. -/
def landB (A : Dev nD → Chunk F .bf16) (c : Dev nD) : Slots F .bf16 := fun i => A (pr c (i 0).val) (inSlot i)

/-! ## What is owned of a buffer -/

def partP (c : Dev nD) (f : Slots F .f32) : sProp 𝕄 := ((c : Thread nD τ).loc cc0_scratch0) ↦{fullShare} f
def stgP (c : Dev nD) (j : ℕ) (f : Slots F .bf16) : sProp 𝕄 := ((c : Thread nD τ).loc cc0_scratch1) ↦[slotSet j]{fullShare} f
def rcvP (c : Dev nD) (j : ℕ) (f : Slots F .bf16) : sProp 𝕄 := ((c : Thread nD τ).loc cc0_scratch2) ↦[slotSet j]{fullShare} f
def gatP (c : Dev nD) (j : ℕ) (f : Slots F .bf16) : sProp 𝕄 := ((c : Thread nD τ).loc cc0_scratch4) ↦[slotSet j]{fullShare} f
/-- The share of a device's finished chunk that its copy number `o` reads under. -/
def shr (o : ℕ) : PosShare TreeShare := Transfers.dealOf fullShare (Finset.Ico 1 16) o
def chkP (c : Dev nD) (o : ℕ) (f : Chunk F .bf16) : sProp 𝕄 := ((c : Thread nD τ).loc cc0_scratch3) ↦{shr o} f

omit [FloatOps F] in
instance (c : Dev nD) (j f) : BI.Storable (upEmb : UEmb _ 𝕄) (stgP (F := F) c j f) := by unfold stgP; infer_instance
omit [FloatOps F] in
instance (c : Dev nD) (j f) : BI.Storable (upEmb : UEmb _ 𝕄) (rcvP (F := F) c j f) := by unfold rcvP; infer_instance
omit [FloatOps F] in
instance (c : Dev nD) (j f) : BI.Storable (upEmb : UEmb _ 𝕄) (gatP (F := F) c j f) := by unfold gatP; infer_instance
omit [FloatOps F] in
instance (c : Dev nD) (j f) : BI.Storable (upEmb : UEmb _ 𝕄) (chkP (F := F) c j f) := by unfold chkP; infer_instance

/-! ## The schedule -/

/-- What one copy of a chunk raises a semaphore by. -/
def N : ℕ := (((Memref.whole cc0_scratch2 : Memref sig .tc .vmem S16x16x512 .bf16).slice (slotRect 0 (by decide)) (fun _ => rfl)).squeeze S16x512 squeezes_S1x16x512_S16x512).view.dmaCredit
theorem N_pos : 0 < N := View.dmaCredit_pos _ (by decide)

section Sched

variable (T : Dev nD → Slots F .bf16) (A : Dev nD → Chunk F .bf16)

/-- What a raise of semaphore `(a, o)` of device `c` hands to `c`. -/
def pay (a : ℕ) (c : Dev nD) (o : ℕ) : sProp 𝕄 :=
  if a = 0 then stgP c (pr c o).val (T c)
  else if a = 1 then rcvP c o (landA T c)
  else if a = 2 then chkP c o (A c)
  else gatP c o (landB A c)

/-- What the barrier raise of peer `o` hands to device `c`: slot `o` of that peer's landing buffers. -/
def barPay (c : Dev nD) (o : ℕ) : sProp 𝕄 := iprop((∃ f, rcvP (pr c o) o f) ∗ (∃ f, gatP (pr c o) o f))

/-- The array and the number of a copy semaphore. -/
def arrOf (q : DmaSem sig) : ℕ := (q.val - 6) / 16
def numOf (q : DmaSem sig) : ℕ := (q.val - 6) % 16

abbrev IsCopy (sm : SemLoc sig) : Prop := ∃ q : DmaSem sig, sm = .dma q ∧ 6 ≤ q.val ∧ numOf q ≠ 0

open Classical in
/-- One round. A barrier cell has duties `1 … 15` of one unit each; a copy's cell has the one duty `0` of the copy's
    credit. The semaphores numbered zero of the four arrays, and the pipeline's own, have none. -/
def xRd : Rounds.Schedule (GSem nD τ sig) ℕ 𝕄 where
  duties g r := if r = 0 ∧ g.1.2 = .tc then (if g.2 = .reg barS then Finset.Ico 1 16 else if IsCopy g.2 then {0} else ∅) else ∅
  unitless _ := False
  amount g _ _ := if g.2 = .reg barS then 1 else N
  payload g _ d := match g.2 with
    | .reg _ => barPay g.1.1 d
    | .dma q => pay T A (arrOf q) g.1.1 (numOf q)
  amount_pos g _ _ _ := by
    by_cases h : g.2 = .reg barS
    · rw [if_pos h]; exact Nat.one_pos
    · rw [if_neg h]; exact N_pos

instance xRd_payload_storable (g : GSem nD τ sig) (r d : ℕ) : BI.Storable (upEmb : UEmb _ 𝕄) ((xRd (F := F) T A).payload g r d) := by
  rcases g with ⟨t, sm⟩
  cases sm with
  | reg s => show BI.Storable upEmb (barPay t.1 d); unfold barPay; infer_instance
  | dma q => show BI.Storable upEmb (pay T A (arrOf q) t.1 (numOf q)); unfold pay; (repeat' split) <;> infer_instance

theorem arrOf_ds {a o : ℕ} (ha : a < 4) (ho : o < 16) : arrOf (ds a o) = a := by unfold arrOf ds; simp only; omega
theorem numOf_ds {a o : ℕ} (ha : a < 4) (ho : o < 16) : numOf (ds a o) = o := by unfold numOf ds; simp only; omega
theorem dma_ne_bar (q : DmaSem sig) : (SemLoc.dma q : SemLoc sig) ≠ .reg barS := fun h => by cases h

omit [FloatOps F] in
theorem duties_bar (c : Dev nD) : (xRd (F := F) T A).duties (barCell c) 0 = Finset.Ico 1 16 := by
  dsimp only [xRd]; rw [if_pos ⟨rfl, rfl⟩, if_pos rfl]
omit [FloatOps F] in
theorem duties_cel {a o : ℕ} (c : Dev nD) (ha : a < 4) (ho : o < 16) (h0 : o ≠ 0) : (xRd (F := F) T A).duties (cel a c o) 0 = {0} := by
  dsimp only [xRd]
  rw [if_pos ⟨rfl, rfl⟩, if_neg (dma_ne_bar _),
    if_pos ⟨ds a o, rfl, by unfold ds; simp only; omega, by rw [numOf_ds ha ho]; exact h0⟩]
omit [FloatOps F] in
theorem duties_cel0 {a : ℕ} (c : Dev nD) (ha : a < 4) (r : ℕ) : (xRd (F := F) T A).duties (cel a c 0) r = ∅ := by
  dsimp only [xRd]
  by_cases hr : r = 0
  · rw [if_pos ⟨hr, rfl⟩, if_neg (dma_ne_bar _), if_neg]
    rintro ⟨q, hq, -, h⟩
    have : ds a 0 = q := by cases hq; rfl
    subst this
    exact h (numOf_ds ha (by decide))
  · rw [if_neg fun h => hr h.1]
omit [FloatOps F] in
theorem duties_later (g : GSem nD τ sig) : ∀ r, 1 ≤ r → (xRd (F := F) T A).duties g r = ∅ :=
  fun r hr => by dsimp only [xRd]; rw [if_neg fun h => by omega]
omit [FloatOps F] in
theorem duties_later' {a o : ℕ} (c : Dev nD) (ha : a < 4) (ho : o < 16) : ∀ r, (if o = 0 then 0 else 1) ≤ r → (xRd (F := F) T A).duties (cel a c o) r = ∅ := by
  intro r hr
  by_cases h : o = 0
  · subst h; exact duties_cel0 T A c ha r
  · rw [if_neg h] at hr; exact duties_later T A _ r hr

omit [FloatOps F] in
theorem amount_bar (c : Dev nD) (d : ℕ) : (xRd (F := F) T A).amount (barCell c) 0 d = 1 := by dsimp only [xRd]; exact if_pos rfl
omit [FloatOps F] in
theorem amount_cel (a : ℕ) (c : Dev nD) (o d : ℕ) : (xRd (F := F) T A).amount (cel a c o) 0 d = N := by dsimp only [xRd]; exact if_neg (dma_ne_bar _)

omit [FloatOps F] in
theorem expect_bar (c : Dev nD) : (xRd (F := F) T A).expect (barCell c) 0 = 15 := by
  unfold Schedule.expect Schedule.amountOf
  rw [duties_bar, Finset.sum_congr rfl fun d _ => amount_bar T A c d, Finset.sum_const, Nat.card_Ico, smul_eq_mul]
omit [FloatOps F] in
theorem expect_cel {a o : ℕ} (c : Dev nD) (ha : a < 4) (ho : o < 16) (h0 : o ≠ 0) : (xRd (F := F) T A).expect (cel a c o) 0 = N := by
  unfold Schedule.expect Schedule.amountOf; rw [duties_cel T A c ha ho h0, Finset.sum_singleton, amount_cel]

omit [FloatOps F] in
theorem payload_bar (c : Dev nD) (d : ℕ) : (xRd (F := F) T A).payload (barCell c) 0 d = barPay c d := rfl
omit [FloatOps F] in
theorem payload_cel {a o : ℕ} (c : Dev nD) (ha : a < 4) (ho : o < 16) (d : ℕ) : (xRd (F := F) T A).payload (cel a c o) 0 d = pay T A a c o := by
  show pay T A (arrOf (ds a o)) c (numOf (ds a o)) = _
  rw [arrOf_ds ha ho, numOf_ds ha ho]

omit [FloatOps F] in
theorem rest_bar (c : Dev nD) : bigSep ((xRd (F := F) T A).duties (barCell c) 0 \ ∅) (fun d => (xRd (F := F) T A).payload (barCell c) 0 d) = bigSep (Finset.Ico 1 16) (barPay c) := by
  rw [Finset.sdiff_empty, duties_bar]; rfl
omit [FloatOps F] in
theorem rest_cel {a o : ℕ} (c : Dev nD) (ha : a < 4) (ho : o < 16) (h0 : o ≠ 0) :
    bigSep ((xRd (F := F) T A).duties (cel a c o) 0 \ ∅) (fun d => (xRd (F := F) T A).payload (cel a c o) 0 d) = pay T A a c o := by
  rw [Finset.sdiff_empty, duties_cel T A c ha ho h0, bigSep_singleton, payload_cel T A c ha ho]

end Sched

/-! ## What a device still owes; the levels -/

/-- What device `c` owes its peers `i … 15`'s barriers. -/
def oweBar (c : Dev nD) (i : ℕ) : CellTallies nD τ sig Unit := ∑ o ∈ Finset.Ico i 16, tallyAt (barCell (pr c o)) () 1
/-- What it owes the landing semaphores of array `a` at its peers `i … 15`. -/
def oweCel (a : ℕ) (c : Dev nD) (i : ℕ) : CellTallies nD τ sig Unit := ∑ o ∈ Finset.Ico i 16, tallyAt (cel a (pr c o) o) () N
/-- What it owes at launch. -/
def O₀ (c : Dev nD) : CellTallies nD τ sig Unit := (oweCel 3 c 1 + oweCel 1 c 1) + oweBar c 1

theorem oweBar_step (c : Dev nD) {i : ℕ} (h : i < 16) : oweBar c i = oweBar c (i + 1) + tallyAt (barCell (pr c i)) () 1 := by
  unfold oweBar; rw [Ring.sum_Ico_succ h, add_comm]
theorem oweCel_step (a : ℕ) (c : Dev nD) {i : ℕ} (h : i < 16) : oweCel a c i = oweCel a c (i + 1) + tallyAt (cel a (pr c i) i) () N := by
  unfold oweCel; rw [Ring.sum_Ico_succ h, add_comm]
theorem oweBar_end (c : Dev nD) : oweBar c 16 = 0 := by unfold oweBar; rw [Finset.Ico_self, Finset.sum_empty]
theorem oweCel_end (a : ℕ) (c : Dev nD) : oweCel a c 16 = 0 := by unfold oweCel; rw [Finset.Ico_self, Finset.sum_empty]

def L (g : GSem nD τ sig) : Finset Unit := if g.1.2 = .tc then {()} else ∅
/-- The order of the waits: barriers at level 1, the scatter's landings at 2, the gather's at 3, all else at 0. -/
def lvS (sm : SemLoc sig) : ℕ := match sm with
  | .reg _ => 1
  | .dma q => if q.val < 22 then 0 else if q.val < 38 then 2 else if q.val < 54 then 0 else 3
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- What a sum of tallies owes somewhere, one of its members owes. -/
theorem sum_tally_pos {f : ℕ → GSem nD τ sig} {k : ℕ} {s : Finset ℕ} {g : GSem nD τ sig} {u : Unit}
    (h : 0 < (∑ o ∈ s, tallyAt (Ix := Unit) (f o) () k) g u) : ∃ o ∈ s, g = f o := by
  by_contra hn
  have : (∑ o ∈ s, tallyAt (Ix := Unit) (f o) () k) g u = 0 := by
    rw [Finset.sum_apply, Finsupp.finset_sum_apply]
    refine Finset.sum_eq_zero fun o ho => ?_
    rw [tallyAt_apply, if_neg]
    rintro ⟨h1, -⟩
    exact hn ⟨o, ho, h1⟩
  omega

omit [FloatOps F] in
/-- A device that owes only on tensor cores at levels above a cell's may wait at that cell. -/
theorem mayWait_of (c : Dev nD) (sm : SemLoc sig) (O : CellTallies nD τ sig Unit)
    (h : ∀ g u, 0 < O g u → g.1.2 = .tc ∧ lvS sm < lvS g.2) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_rfl)
    (fun g u hg => (h g u hg).2)

theorem oweCel_pos {a : ℕ} {c : Dev nD} {i : ℕ} {g : GSem nD τ sig} {u : Unit} (hi : 1 ≤ i) (h : 0 < oweCel a c i g u) :
    ∃ o, 1 ≤ o ∧ o < 16 ∧ g = cel a (pr c o) o := by
  obtain ⟨o, ho, e⟩ := sum_tally_pos h
  rw [Finset.mem_Ico] at ho
  exact ⟨o, by omega, ho.2, e⟩

theorem lvS_ds1 {o : ℕ} (h : o < 16) : lvS (.dma (ds 1 o)) = 2 := by
  have : (ds 1 o).val = 22 + o := by unfold ds; simp only; omega
  unfold lvS; simp only [this]; rw [if_neg (by omega), if_pos (by omega)]
theorem lvS_ds3 {o : ℕ} (h : o < 16) : lvS (.dma (ds 3 o)) = 3 := by
  have : (ds 3 o).val = 54 + o := by unfold ds; simp only; omega
  unfold lvS; simp only [this]; rw [if_neg (by omega), if_neg (by omega), if_neg (by omega)]

omit [FloatOps F] in
/-- At its barrier a device owes landings only. -/
theorem mayWait_bar (c : Dev nD) : (levAts L lv : sProp 𝕄) ⊢ MayWait (c : Thread nD τ) (.reg barS) () (oweCel 3 c 1 + oweCel 1 c 1) :=
  mayWait_of c _ _ fun g u hg => by
    rw [Pi.add_apply, Finsupp.add_apply] at hg
    rcases Nat.eq_zero_or_pos (oweCel 3 c 1 g u) with h | h
    · obtain ⟨o, -, ho, rfl⟩ := oweCel_pos (le_refl 1) (show 0 < oweCel 1 c 1 g u by omega)
      exact ⟨rfl, by rw [lvS_ds1 ho]; decide⟩
    · obtain ⟨o, -, ho, rfl⟩ := oweCel_pos (le_refl 1) h
      exact ⟨rfl, by rw [lvS_ds3 ho]; decide⟩
omit [FloatOps F] in
/-- At the scatter's landings a device owes the gather's only. -/
theorem mayWait_rcv (c : Dev nD) {o : ℕ} (ho : o < 16) : (levAts L lv : sProp 𝕄) ⊢ MayWait (c : Thread nD τ) (.dma (ds 1 o)) () (oweCel 3 c 1) :=
  mayWait_of c _ _ fun g u hg => by
    obtain ⟨o', -, ho', rfl⟩ := oweCel_pos (le_refl 1) hg
    exact ⟨rfl, by rw [lvS_ds1 ho, lvS_ds3 ho']; decide⟩
omit [FloatOps F] in
theorem mayWait_none (c : Dev nD) (sm : SemLoc sig) : (levAts L lv : sProp 𝕄) ⊢ MayWait (c : Thread nD τ) sm () 0 := by
  rw [MayWait_zero]; iintro -; iempintro

omit [FloatOps F] in
/-- The pipeline's own waits, on semaphores at level 0. -/
theorem mayWait_stage (c : Dev nD) (q : DmaSem sig) (hq : q.val < 22) (O : CellTallies nD τ sig Unit) (hO : O = O₀ c ∨ O = 0) :
    (levAts L lv : sProp 𝕄) ⊢ MayWait (c : Thread nD τ) (.dma q) () O := by
  rcases hO with rfl | rfl
  · refine mayWait_of c _ _ fun g u hg => ?_
    have hl : lvS (.dma q) = 0 := by unfold lvS; exact if_pos hq
    unfold O₀ at hg
    rw [Pi.add_apply, Finsupp.add_apply, Pi.add_apply, Finsupp.add_apply] at hg
    rcases Nat.eq_zero_or_pos (oweCel 3 c 1 g u) with h | h
    · rcases Nat.eq_zero_or_pos (oweCel 1 c 1 g u) with h' | h'
      · obtain ⟨o, -, e⟩ := sum_tally_pos (show 0 < oweBar c 1 g u by omega)
        rw [hl, e]; exact ⟨rfl, Nat.one_pos⟩
      · obtain ⟨o, -, ho, rfl⟩ := oweCel_pos (le_refl 1) h'
        exact ⟨rfl, by rw [hl, lvS_ds1 ho]; decide⟩
    · obtain ⟨o, -, ho, rfl⟩ := oweCel_pos (le_refl 1) h
      exact ⟨rfl, by rw [hl, lvS_ds3 ho]; decide⟩
  · exact mayWait_none c _

end Cert.KernelIdeal.Xch

end
-- ==== Proof.KernelIdeal.Steps.lean ====
/-
  One lemma for each kind of operation of the exchange, at a symbolic device `c` and peer number `k`.
-/
module

public import proofs.«01_k».proof.Proof.KernelIdeal.Proto

@[expose] public section

noncomputable section

namespace Cert.KernelIdeal.Xch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## Views of slots -/

/-- Slot view of a buffer of sixteen slots, its leading axis dropped. -/
abbrev slotOf {e : EltTy} (M : Memref sig .tc .vmem S16x16x512 e) (off : Fin 3 → ℕ) (inb : ∀ a, off a + S1x16x512.size a ≤ S16x16x512.size a) :
    Memref sig .tc .vmem S16x512 e :=
  (M.slice (Rect.unit (s := S16x16x512) off S1x16x512.size inb) (fun _ => rfl)).squeeze S16x512 squeezes_S1x16x512_S16x512

abbrev stgM : Memref sig .tc .vmem S16x16x512 .bf16 := Memref.whole cc0_scratch1
abbrev rcvM : Memref sig .tc .vmem S16x16x512 .bf16 := Memref.whole cc0_scratch2
abbrev chkM : Memref sig .tc .vmem S16x512 .bf16 := Memref.whole cc0_scratch3
abbrev gatM : Memref sig .tc .vmem S16x16x512 .bf16 := Memref.whole cc0_scratch4

/-- The place in slot `j` of the buffer of the place `x` in a chunk. -/
def inBuf (j : ℕ) (h : j < 16) (x : S16x512.Idx) : S16x16x512.Idx :=
  ValueIdx.ix3 (⟨j, h⟩ : Fin 16) (⟨(x 0).val, (x 0).isLt⟩ : Fin 16) (⟨(x 1).val, (x 1).isLt⟩ : Fin 512)

theorem inSlot_inBuf (j : ℕ) (h : j < 16) (x : S16x512.Idx) : inSlot (inBuf j h x) = x := by
  funext a; fin_cases a <;> rfl
theorem inBuf_inSlot {j : ℕ} (h : j < 16) {i : S16x16x512.Idx} (hi : (i 0).val = j) : inBuf j h (inSlot i) = i := by
  funext a; fin_cases a
  · exact Fin.ext hi.symm
  · rfl
  · rfl

theorem rect_emb {off : Fin 3 → ℕ} {j : ℕ} (hj : j < 16) (hoff : off = ![j, 0, 0])
    (inb : ∀ a, off a + S1x16x512.size a ≤ S16x16x512.size a) (h : S16x512.numel = S1x16x512.numel) (x : S16x512.Idx) :
    (Rect.unit (s := S16x16x512) off S1x16x512.size inb).emb (Shape.reshapeEquiv h x) = inBuf j hj x := by
  subst hoff
  have e : Shape.reshapeEquiv h x = ValueIdx.ix3 (⟨0, Nat.one_pos⟩ : Fin 1) (⟨(x 0).val, (x 0).isLt⟩ : Fin 16) (⟨(x 1).val, (x 1).isLt⟩ : Fin 512) := by
    rw [← ValueIdx.reshapeEquiv_ix2_1ab h]
    congr 1
    funext a; fin_cases a <;> rfl
  rw [e]
  funext a
  fin_cases a
  · exact Fin.ext (by show j + 1 * 0 = j; omega)
  · exact Fin.ext (by show 0 + 1 * (x 0).val = (x 0).val; omega)
  · exact Fin.ext (by show 0 + 1 * (x 1).val = (x 1).val; omega)

section Views
variable {off : Fin 3 → ℕ} {j : ℕ} (hj : j < 16) (hoff : off = ![j, 0, 0]) (inb : ∀ a, off a + S1x16x512.size a ≤ S16x16x512.size a)
include hj hoff

theorem stg_set : (slotOf stgM off inb).view.set = slotSet j := by
  show (((View.whole cc0_scratch1).slice _).reshape _ _).set = _
  rw [View.set_reshape, View.set_slice_whole]; exact slotRect_set hoff inb
theorem rcv_set : (slotOf rcvM off inb).view.set = slotSet j := by
  show (((View.whole cc0_scratch2).slice _).reshape _ _).set = _
  rw [View.set_reshape, View.set_slice_whole]; exact slotRect_set hoff inb
theorem gat_set : (slotOf gatM off inb).view.set = slotSet j := by
  show (((View.whole cc0_scratch4).slice _).reshape _ _).set = _
  rw [View.set_reshape, View.set_slice_whole]; exact slotRect_set hoff inb

omit [FloatOps F] in
theorem stg_read (f : Slots F .bf16) : (slotOf stgM off inb).view.read (Elt F) f = fun x => f (inBuf j hj x) := by
  funext x
  exact congrArg f (rect_emb hj hoff inb rfl x)
omit [FloatOps F] in
theorem rcv_write (f : Slots F .bf16) (w : Chunk F .bf16) {i : S16x16x512.Idx} (hi : i ∈ slotSet j) :
    (slotOf rcvM off inb).view.write (Elt F) f w Finset.univ i = w (inSlot i) := by
  have e : i = (slotOf rcvM off inb).view.emb (inSlot i) :=
    ((rect_emb hj hoff inb rfl (inSlot i)).trans (inBuf_inSlot hj (mem_slotSet.mp hi))).symm
  exact (congrArg _ e).trans (View.write_emb_of_mem (Val := Elt F) (v := (slotOf rcvM off inb).view) f w (Finset.mem_univ _))
omit [FloatOps F] in
theorem gat_write (f : Slots F .bf16) (w : Chunk F .bf16) {i : S16x16x512.Idx} (hi : i ∈ slotSet j) :
    (slotOf gatM off inb).view.write (Elt F) f w Finset.univ i = w (inSlot i) := by
  have e : i = (slotOf gatM off inb).view.emb (inSlot i) :=
    ((rect_emb hj hoff inb rfl (inSlot i)).trans (inBuf_inSlot hj (mem_slotSet.mp hi))).symm
  exact (congrArg _ e).trans (View.write_emb_of_mem (Val := Elt F) (v := (slotOf gatM off inb).view) f w (Finset.mem_univ _))

end Views

theorem credit_stg (off : Fin 3 → ℕ) (inb : ∀ a, off a + S1x16x512.size a ≤ S16x16x512.size a) : (slotOf stgM off inb).view.dmaCredit = N := rfl
theorem credit_rcv (off : Fin 3 → ℕ) (inb : ∀ a, off a + S1x16x512.size a ≤ S16x16x512.size a) : (slotOf rcvM off inb).view.dmaCredit = N := rfl
theorem credit_gat (off : Fin 3 → ℕ) (inb : ∀ a, off a + S1x16x512.size a ≤ S16x16x512.size a) : (slotOf gatM off inb).view.dmaCredit = N := rfl
theorem credit_chk : chkM.view.dmaCredit = N := rfl

/-! ## What every device knows -/

/-- The cells: for each device, its four arrays of sixteen copy semaphores and its barrier. -/
abbrev CI : Type := Dev nD × ((Fin 4 × Fin 16) ⊕ Unit)
def kcell (i : CI) : GSem nD τ sig := match i.2 with
  | .inl q => cel q.1.val i.1 q.2.val
  | .inr _ => barCell i.1

section Know

variable (T : Dev nD → Slots F .bf16) (A : Dev nD → Chunk F .bf16) (K : CI → ℕ)

/-- The invariants of all cells, that each has reached round 0, and the levels. -/
def know : sProp 𝕄 :=
  iprop(bigSep Finset.univ (fun i : CI => iprop(cellInv ER (xRd T A) (K i) (kcell i) ∗ reached ER (kcell i) 0)) ∗ (levAts L lv : sProp 𝕄))

instance know_persistent : Persistent (know (F := F) T A K) := by unfold know; infer_instance

omit [FloatOps F] in
theorem know_lev : know (F := F) T A K ⊢ (levAts L lv : sProp 𝕄) := by unfold know; iintro ⟨-, H⟩; iexact H
omit [FloatOps F] in
theorem all_at (i : CI) : (bigSep Finset.univ fun i : CI => (iprop(cellInv ER (xRd T A) (K i) (kcell i) ∗ reached ER (kcell i) 0) : sProp 𝕄))
    ⊢ iprop(cellInv ER (xRd T A) (K i) (kcell i) ∗ reached ER (kcell i) 0) := bigSep_elim (Finset.mem_univ i)
omit [FloatOps F] in
theorem know_at (i : CI) : know (F := F) T A K ⊢ iprop(cellInv ER (xRd T A) (K i) (kcell i) ∗ reached ER (kcell i) 0) := by
  unfold know
  iintro ⟨H, -⟩
  iapply (all_at T A K i); iexact H
omit [FloatOps F] in
theorem know_bar (c : Dev nD) : know (F := F) T A K ⊢ iprop(cellInv ER (xRd T A) (K (c, .inr ())) (barCell c) ∗ reached ER (barCell c) 0) := know_at T A K (c, .inr ())
omit [FloatOps F] in
theorem know_cel {a o : ℕ} (ha : a < 4) (ho : o < 16) (c : Dev nD) :
    know (F := F) T A K ⊢ iprop(cellInv ER (xRd T A) (K (c, .inl (⟨a, ha⟩, ⟨o, ho⟩))) (cel a c o) ∗ reached ER (cel a c o) 0) := know_at T A K (c, .inl (⟨a, ha⟩, ⟨o, ho⟩))

/-! ## Steps -/

/-- Device `c` runs `p`, to end with `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`. -/
def owesX (c : Dev nD) (O : CellTallies nD τ sig Unit) : sProp 𝕄 := iprop(∃ W, owes (c : Thread nD τ) O W)

/-- Before barrier raise number `k`: the tokens of the raises to come and the landing slots they hand over. -/
def SigSt (c : Dev nD) (k : ℕ) : sProp 𝕄 :=
  iprop(owesX c ((oweCel 3 c 1 + oweCel 1 c 1) + oweBar c k)
    ∗ bigSep (Finset.Ico k 16) (fun o => iprop(dutyTok ER (barCell (pr c o)) 0 o ∗ (∃ f, rcvP c o f) ∗ (∃ f, gatP c o f))))

theorem step_signal {α : Type} {Q : α → sProp 𝕄} (c n : Dev nD) {k : ℕ} {R : sProp 𝕄} (hk : k < 16) (h1 : 1 ≤ k) (hn : n = pr c k)
    {kont : PUnit → Prog (TpuEff nD τ sig (Elt F) Λ₀ .tc) α}
    (h : iprop(know T A K ∗ SigSt c (k + 1) ∗ R) ⊢ WP c (kont ⟨⟩) Q) :
    iprop(know T A K ∗ SigSt c k ∗ R) ⊢ WP c (.op (.semSignal (Dev.tc n) barS 1) kont) Q := by
  subst hn
  unfold SigSt owesX
  rw [bigSep_Ico_succ_bot hk]
  iintro ⟨#Hk, ⟨⟨%W, HO⟩, ⟨Ht, Hr, Hg⟩, Hs⟩, HR⟩
  ihave #Hb := (know_bar T A K (pr c k)) $$ Hk
  icases Hb with ⟨#Hi, #Hre⟩
  iapply (Rounds.wp_signal 𝒱₀ ER (xRd T A) (c : Thread nD τ) none (dst := ((pr c k : Dev nD) : Thread nD τ)) (κ := K (pr c k, .inr ()))
      (d := k) (r := 0) (O₀ := (oweCel 3 c 1 + oweCel 1 c 1) + oweBar c k) (by rw [duties_bar]; exact Finset.mem_Ico.mpr ⟨h1, hk⟩) (amount_bar T A (pr c k) k) ()
      ((oweCel 3 c 1 + oweCel 1 c 1) + oweBar c (k + 1)) (by rw [oweBar_step c hk, ← add_assoc])) $$ [HO Ht Hr Hg]
  · isplitr; · iexact Hi
    isplitl [HO]; · iexact HO
    isplitl [Ht]; · iexact Ht
    isplitl
    · rw [payload_bar]; unfold barPay; rw [pr_pr c hk]
      isplitl [Hr]; · iexact Hr
      iexact Hg
    iexact Hre
  iintro HO
  iapply h
  unfold SigSt owesX
  isplitr; · iexact Hk
  isplitl [HO Hs]
  · isplitl [HO]; · iexists W; iexact HO
    iexact Hs
  iexact HR

/-- The wait for the fifteen peers at the barrier: it hands over their landing slots. -/
theorem step_barrier {α : Type} {Q : α → sProp 𝕄} (c : Dev nD) {R : sProp 𝕄}
    {kont : PUnit → Prog (TpuEff nD τ sig (Elt F) Λ₀ .tc) α}
    (h : iprop(know T A K ∗ owesX c (oweCel 3 c 1 + oweCel 1 c 1) ∗ (atPos ER (barCell c) 1 ∅ 0 ∗ bigSep (Finset.Ico 1 16) (barPay c)) ∗ R) ⊢ WP c (kont ⟨⟩) Q) :
    iprop(know T A K ∗ owesX c (oweCel 3 c 1 + oweCel 1 c 1) ∗ (cred (tallyAt (barCell c) () 15) ∗ atPos ER (barCell c) 0 ∅ 0) ∗ R)
      ⊢ WP c (.op (.semWait barS 15) kont) Q := by
  unfold owesX
  iintro ⟨#Hk, ⟨%W, HO⟩, ⟨Hc, Hat⟩, HR⟩
  ihave #Hb := (know_bar T A K c) $$ Hk
  icases Hb with ⟨#Hi, #Hre⟩
  iapply (Rounds.wp_wait_rest_token 𝒱₀ ER (xRd T A) (c : Thread nD τ) none (κ := K (c, .inr ()))
      (wpE_semWait_eq 𝒱₀ (c : Thread nD τ) none Set.univ) (Set.mem_univ _) () (O := oweCel 3 c 1 + oweCel 1 c 1) (W := W) (R := 0) (m := 0) (T := ∅) (k' := 15)
      (by rw [expect_bar])) $$ [Hc HO Hat]
  · isplitr; · iexact Hi
    isplitl [Hc]; · iexact Hc
    isplitl [HO]; · iexact HO
    isplitr; · iapply ((@know_lev F T A K).trans (mayWait_bar c)); iexact Hk
    iexact Hat
  iintro ⟨HO, Hat, -, Hpay⟩
  ihave Hp := (Entails.of_eq (rest_bar T A c)) $$ Hpay
  iapply h
  unfold owesX
  isplitr; · iexact Hk
  isplitl [HO]; · iexists _; iexact HO
  isplitl [Hat Hp]
  · isplitl [Hat]; · iexact Hat
    iexact Hp
  iexact HR

omit [FloatOps F] in
theorem stgP_eq {off : Fin 3 → ℕ} {j : ℕ} (hoff : off = ![j, 0, 0]) (inb : ∀ a, off a + S1x16x512.size a ≤ S16x16x512.size a) (hj : j < 16) (c : Dev nD) (f : Slots F .bf16) :
    stgP c j f = (((slotOf stgM off inb).view.loc (c : Thread nD τ) ↦[(slotOf stgM off inb).view.set]{fullShare} f : sProp 𝕄)) := by
  unfold stgP; exact congrArg (fun S => (((c : Thread nD τ).loc cc0_scratch1 ↦[S]{fullShare} f : sProp 𝕄))) (stg_set hj hoff inb).symm
omit [FloatOps F] in
theorem rcvP_eq {off : Fin 3 → ℕ} {j : ℕ} (hoff : off = ![j, 0, 0]) (inb : ∀ a, off a + S1x16x512.size a ≤ S16x16x512.size a) (hj : j < 16) (c : Dev nD) (f : Slots F .bf16) :
    rcvP c j f = (((slotOf rcvM off inb).view.loc (c : Thread nD τ) ↦[(slotOf rcvM off inb).view.set]{fullShare} f : sProp 𝕄)) := by
  unfold rcvP; exact congrArg (fun S => (((c : Thread nD τ).loc cc0_scratch2 ↦[S]{fullShare} f : sProp 𝕄))) (rcv_set hj hoff inb).symm
omit [FloatOps F] in
theorem gatP_eq {off : Fin 3 → ℕ} {j : ℕ} (hoff : off = ![j, 0, 0]) (inb : ∀ a, off a + S1x16x512.size a ≤ S16x16x512.size a) (hj : j < 16) (c : Dev nD) (f : Slots F .bf16) :
    gatP c j f = (((slotOf gatM off inb).view.loc (c : Thread nD τ) ↦[(slotOf gatM off inb).view.set]{fullShare} f : sProp 𝕄)) := by
  unfold gatP; exact congrArg (fun S => (((c : Thread nD τ).loc cc0_scratch4 ↦[S]{fullShare} f : sProp 𝕄))) (gat_set hj hoff inb).symm
omit [FloatOps F] in
theorem chkP_eq (c : Dev nD) (o : ℕ) (f : Chunk F .bf16) :
    chkP c o f = (((chkM.view.loc (c : Thread nD τ)) ↦[chkM.view.set]{shr o} f : sProp 𝕄)) := by
  unfold chkP; exact congrArg (fun S => (((c : Thread nD τ).loc cc0_scratch3 ↦[S]{shr o} f : sProp 𝕄))) (View.set_whole cc0_scratch3).symm

/-- Before scatter copy number `k`: the slots and tokens of the copies to come, the credits of those made. -/
def SndSt (c : Dev nD) (k : ℕ) : sProp 𝕄 :=
  iprop(owesX c (oweCel 3 c 1 + oweCel 1 c k)
    ∗ bigSep (Finset.Ico k 16) (fun o => iprop((stgP c (pr c o).val (T c) ∗ (∃ f, rcvP (pr c o) o f)) ∗ dutyTok ER (cel 0 c o) 0 0 ∗ dutyTok ER (cel 1 (pr c o) o) 0 0))
    ∗ bigSep (Finset.Ico 1 k) (fun o => cred (tallyAt (cel 0 c o) () N)))

/-- A scatter copy. -/
theorem step_scatter {α : Type} {Q : α → sProp 𝕄} (c n : Dev nD) {k : ℕ} {R : sProp 𝕄} (hk : k < 16) (h1 : 1 ≤ k) (hn : n = pr c k)
    {off off' : Fin 3 → ℕ} (hoff : off = ![(pr c k).val, 0, 0]) (hoff' : off' = ![k, 0, 0])
    {inb : ∀ a, off a + S1x16x512.size a ≤ S16x16x512.size a} {inb' : ∀ a, off' a + S1x16x512.size a ≤ S16x16x512.size a}
    {sS sR : DmaSem sig} (hS : sS = ds 0 k) (hR : sR = ds 1 k)
    {hsc : (slotOf rcvM off' inb' : Memref sig (Dev.tc n : Thread nD τ).2.kind .vmem S16x512 .bf16).view.ref.isScScratch = false}
    {hsrc : (slotOf stgM off inb).view.WordExact} {hdst : (slotOf rcvM off' inb').view.WordExact}
    {hsem : DmaTarget.Typed .vmem (.dma sR) (.remote (Dev.tc n : Thread nD τ) (slotOf rcvM off' inb') (.dma sS) hsc)}
    {kont : PUnit → Prog (TpuEff nD τ sig (Elt F) Λ₀ .tc) α}
    (h : iprop(know T A K ∗ SndSt T c (k + 1) ∗ R) ⊢ WP c (kont ⟨⟩) Q) :
    iprop(know T A K ∗ SndSt T c k ∗ R)
      ⊢ WP c (.op (.enqueueDma (slotOf stgM off inb) (.remote (Dev.tc n : Thread nD τ) (slotOf rcvM off' inb') (.dma sS) hsc) (.dma sR) hsrc hdst hsem) kont) Q := by
  subst hn hS hR
  unfold SndSt owesX
  rw [bigSep_Ico_succ_bot hk]
  iintro ⟨#Hk, ⟨⟨%W, HO⟩, ⟨⟨⟨Hs, ⟨%fd, Hd⟩⟩, Ht0, Ht1⟩, Hrest⟩, Hcr⟩, HR⟩
  ihave #Hb := (know_cel T A K (show 0 < 4 by decide) hk c) $$ Hk
  icases Hb with ⟨#Hi0, #Hre0⟩
  ihave #Hb := (know_cel T A K (show 1 < 4 by decide) hk (pr c k)) $$ Hk
  icases Hb with ⟨#Hi1, #Hre1⟩
  ihave Hs := (Entails.of_eq (stgP_eq hoff inb (pr_val_lt c k) c (T c))) $$ Hs
  ihave Hd := (Entails.of_eq (rcvP_eq hoff' inb' hk (pr c k) fd)) $$ Hd
  iapply (Rounds.wp_send_pointsTo 𝒱₀ ER (xRd T A) (c : Thread nD τ) none (c' := ((pr c k : Dev nD) : Thread nD τ))
      (src := slotOf stgM off inb) (dst := slotOf rcvM off' inb') (sS := .dma (ds 0 k)) (sem := .dma (ds 1 k))
      (κ₁ := K (c, .inl (⟨0, by decide⟩, ⟨k, hk⟩))) (κ₂ := K (pr c k, .inl (⟨1, by decide⟩, ⟨k, hk⟩)))
      (r₁ := 0) (r₂ := 0) (d₁ := 0) (d₂ := 0) (fs := T c) (fd := fd) (O₀ := oweCel 3 c 1 + oweCel 1 c k)
      (by rw [duties_cel T A c (by decide) hk (by omega)]; exact Finset.mem_singleton_self _)
      (by rw [duties_cel T A (pr c k) (by decide) hk (by omega)]; exact Finset.mem_singleton_self _)
      () () N rfl (amount_cel T A 0 c k 0) (amount_cel T A 1 (pr c k) k 0) (oweCel 3 c 1 + oweCel 1 c (k + 1))
      (by rw [oweCel_step 1 c hk, ← add_assoc]) (W := W)
      (by rw [payload_cel T A c (by decide) hk, ← stgP_eq hoff inb (pr_val_lt c k) c (T c)]; exact BI.Entails.refl _)
      (by
        rw [payload_cel T A (pr c k) (by decide) hk]
        refine (Entails.of_eq (rcvP_eq hoff' inb' hk (pr c k) _).symm).trans (Entails.of_eq ?_)
        show rcvP (pr c k) k _ = rcvP (pr c k) k (landA T (pr c k))
        unfold rcvP
        refine pointsTo_congr fun i hi => ?_
        rw [rcv_write hk hoff' inb' _ _ hi, stg_read (pr_val_lt c k) hoff inb]
        unfold landA
        rw [mem_slotSet.mp hi, pr_pr c hk]
        rfl)) $$ [Hs Hd HO Ht0 Ht1]
  · isplitr; · iexact Hi0
    isplitr; · iexact Hi1
    isplitl [Hs]; · iexact Hs
    isplitl [Hd]; · iexact Hd
    isplitl [HO]; · iexact HO
    isplitl [Ht0]; · iexact Ht0
    isplitr; · iexact Hre0
    isplitl [Ht1]; · iexact Ht1
    iexact Hre1
  iintro ⟨Hc, HO⟩
  iapply h
  unfold SndSt owesX
  rw [bigSep_Ico_succ_top h1]
  isplitr; · iexact Hk
  isplitl [HO Hrest Hcr Hc]
  · isplitl [HO]; · iexists W; iexact HO
    isplitl [Hrest]; · iexact Hrest
    isplitl [Hc]; · iexact Hc
    iexact Hcr
  iexact HR

/-- Before gather copy number `k`: the shares, slots and tokens of the copies to come, the credits of those made. -/
def GatSt (c : Dev nD) (k : ℕ) : sProp 𝕄 :=
  iprop(owesX c (oweCel 3 c k)
    ∗ bigSep (Finset.Ico k 16) (fun o => iprop((chkP c o (A c) ∗ (∃ f, gatP (pr c o) o f)) ∗ dutyTok ER (cel 2 c o) 0 0 ∗ dutyTok ER (cel 3 (pr c o) o) 0 0))
    ∗ bigSep (Finset.Ico 1 k) (fun o => cred (tallyAt (cel 2 c o) () N)))

/-- A gather copy. -/
theorem step_gather {α : Type} {Q : α → sProp 𝕄} (c n : Dev nD) {k : ℕ} {R : sProp 𝕄} (hk : k < 16) (h1 : 1 ≤ k) (hn : n = pr c k)
    {off' : Fin 3 → ℕ} (hoff' : off' = ![k, 0, 0]) {inb' : ∀ a, off' a + S1x16x512.size a ≤ S16x16x512.size a}
    {sS sR : DmaSem sig} (hS : sS = ds 2 k) (hR : sR = ds 3 k)
    {hsc : (slotOf gatM off' inb' : Memref sig (Dev.tc n : Thread nD τ).2.kind .vmem S16x512 .bf16).view.ref.isScScratch = false}
    {hsrc : chkM.view.WordExact} {hdst : (slotOf gatM off' inb').view.WordExact}
    {hsem : DmaTarget.Typed .vmem (.dma sR) (.remote (Dev.tc n : Thread nD τ) (slotOf gatM off' inb') (.dma sS) hsc)}
    {kont : PUnit → Prog (TpuEff nD τ sig (Elt F) Λ₀ .tc) α}
    (h : iprop(know T A K ∗ GatSt A c (k + 1) ∗ R) ⊢ WP c (kont ⟨⟩) Q) :
    iprop(know T A K ∗ GatSt A c k ∗ R)
      ⊢ WP c (.op (.enqueueDma chkM (.remote (Dev.tc n : Thread nD τ) (slotOf gatM off' inb') (.dma sS) hsc) (.dma sR) hsrc hdst hsem) kont) Q := by
  subst hn hS hR
  unfold GatSt owesX
  rw [bigSep_Ico_succ_bot hk]
  iintro ⟨#Hk, ⟨⟨%W, HO⟩, ⟨⟨⟨Hs, ⟨%fd, Hd⟩⟩, Ht0, Ht1⟩, Hrest⟩, Hcr⟩, HR⟩
  ihave #Hb := (know_cel T A K (show 2 < 4 by decide) hk c) $$ Hk
  icases Hb with ⟨#Hi0, #Hre0⟩
  ihave #Hb := (know_cel T A K (show 3 < 4 by decide) hk (pr c k)) $$ Hk
  icases Hb with ⟨#Hi1, #Hre1⟩
  ihave Hs := (Entails.of_eq (chkP_eq c k (A c))) $$ Hs
  ihave Hd := (Entails.of_eq (gatP_eq hoff' inb' hk (pr c k) fd)) $$ Hd
  iapply (Rounds.wp_send_pointsTo 𝒱₀ ER (xRd T A) (c : Thread nD τ) none (c' := ((pr c k : Dev nD) : Thread nD τ))
      (src := chkM) (dst := slotOf gatM off' inb') (sS := .dma (ds 2 k)) (sem := .dma (ds 3 k))
      (κ₁ := K (c, .inl (⟨2, by decide⟩, ⟨k, hk⟩))) (κ₂ := K (pr c k, .inl (⟨3, by decide⟩, ⟨k, hk⟩)))
      (r₁ := 0) (r₂ := 0) (d₁ := 0) (d₂ := 0) (fs := A c) (fd := fd) (q := shr k) (O₀ := oweCel 3 c k)
      (by rw [duties_cel T A c (by decide) hk (by omega)]; exact Finset.mem_singleton_self _)
      (by rw [duties_cel T A (pr c k) (by decide) hk (by omega)]; exact Finset.mem_singleton_self _)
      () () N rfl (amount_cel T A 2 c k 0) (amount_cel T A 3 (pr c k) k 0) (oweCel 3 c (k + 1))
      (by rw [oweCel_step 3 c hk]) (W := W)
      (by rw [payload_cel T A c (by decide) hk, ← chkP_eq c k (A c)]; exact BI.Entails.refl _)
      (by
        rw [payload_cel T A (pr c k) (by decide) hk]
        refine (Entails.of_eq (gatP_eq hoff' inb' hk (pr c k) _).symm).trans (Entails.of_eq ?_)
        show gatP (pr c k) k _ = gatP (pr c k) k (landB A (pr c k))
        unfold gatP
        refine pointsTo_congr fun i hi => ?_
        rw [gat_write hk hoff' inb' _ _ hi]
        unfold landB
        rw [mem_slotSet.mp hi, pr_pr c hk]
        rfl)) $$ [Hs Hd HO Ht0 Ht1]
  · isplitr; · iexact Hi0
    isplitr; · iexact Hi1
    isplitl [Hs]; · iexact Hs
    isplitl [Hd]; · iexact Hd
    isplitl [HO]; · iexact HO
    isplitl [Ht0]; · iexact Ht0
    isplitr; · iexact Hre0
    isplitl [Ht1]; · iexact Ht1
    iexact Hre1
  iintro ⟨Hc, HO⟩
  iapply h
  unfold GatSt owesX
  rw [bigSep_Ico_succ_top h1]
  isplitr; · iexact Hk
  isplitl [HO Hrest Hcr Hc]
  · isplitl [HO]; · iexists W; iexact HO
    isplitl [Hrest]; · iexact Hrest
    isplitl [Hc]; · iexact Hc
    iexact Hcr
  iexact HR

/-- Before wait number `k` at the semaphores of array `a`: the credits of the waits to come, what those done handed over. -/
def WaitSt (a : ℕ) (c : Dev nD) (k : ℕ) : sProp 𝕄 :=
  iprop(bigSep (Finset.Ico k 16) (fun o => iprop(cred (tallyAt (cel a c o) () N) ∗ atPos ER (cel a c o) 0 ∅ 0))
    ∗ bigSep (Finset.Ico 1 k) (fun o => iprop(pay T A a c o ∗ atPos ER (cel a c o) 1 ∅ 0)))

theorem step_wait {α : Type} {Q : α → sProp 𝕄} (a : ℕ) (ha : a < 4) (c : Dev nD) {k : ℕ} {R : sProp 𝕄} (hk : k < 16) (h1 : 1 ≤ k)
    (O : CellTallies nD τ sig Unit) (hmw : (levAts L lv : sProp 𝕄) ⊢ MayWait (c : Thread nD τ) (.dma (ds a k)) () O)
    {sm : DmaSem sig} (hs : sm = ds a k) {sp sp' : Space} {s s' : Shape} {e e' : EltTy} {src : Memref sig .tc sp' s' e'} {dst : Memref sig .tc sp s e}
    {hsrc : src.view.WordExact} {hdst : dst.view.WordExact} (hN : dst.view.dmaCredit = N)
    {kont : PUnit → Prog (TpuEff nD τ sig (Elt F) Λ₀ .tc) α}
    (h : iprop(know T A K ∗ owesX c O ∗ WaitSt T A a c (k + 1) ∗ R) ⊢ WP c (kont ⟨⟩) Q) :
    iprop(know T A K ∗ owesX c O ∗ WaitSt T A a c k ∗ R) ⊢ WP c (.op (.waitDma2 sm src dst hsrc hdst) kont) Q := by
  subst hs
  unfold WaitSt owesX
  rw [bigSep_Ico_succ_bot hk]
  iintro ⟨#Hk, ⟨%W, HO⟩, ⟨⟨⟨Hc, Hat⟩, Hrest⟩, Hdone⟩, HR⟩
  ihave #Hb := (know_cel T A K ha hk c) $$ Hk
  icases Hb with ⟨#Hi, #Hre⟩
  iapply (Rounds.wp_wait_rest_token 𝒱₀ ER (xRd T A) (c : Thread nD τ) none (κ := K (c, .inl (⟨a, ha⟩, ⟨k, hk⟩)))
      (wpE_waitDma2_eq 𝒱₀ (c : Thread nD τ) none Set.univ) (Set.mem_univ _) () (O := O) (W := W) (R := 0) (m := 0) (T := ∅) (k' := dst.view.dmaCredit)
      (by rw [expect_cel T A c ha hk (by omega), hN, Nat.zero_add])) $$ [Hc HO Hat]
  · isplitr; · iexact Hi
    isplitl [Hc]; · rw [hN]; iexact Hc
    isplitl [HO]; · iexact HO
    isplitr; · iapply ((@know_lev F T A K).trans hmw); iexact Hk
    iexact Hat
  iintro ⟨HO, Hat, -, Hpay⟩
  ihave Hp := (Entails.of_eq (rest_cel T A c ha hk (by omega))) $$ Hpay
  iapply h
  unfold WaitSt owesX
  rw [bigSep_Ico_succ_top h1]
  isplitr; · iexact Hk
  isplitl [HO]; · iexists _; iexact HO
  isplitl [Hrest Hdone Hat Hp]
  · isplitl [Hrest]; · iexact Hrest
    isplitl [Hp Hat]
    · isplitl [Hp]; · iexact Hp
      iexact Hat
    iexact Hdone
  iexact HR

omit [FloatOps F] in
theorem swap34 (P₁ P₂ P₃ P₄ P₅ : sProp 𝕄) : iprop(P₁ ∗ P₂ ∗ P₃ ∗ P₄ ∗ P₅) ⊢ iprop(P₁ ∗ P₂ ∗ P₄ ∗ P₃ ∗ P₅) := by
  iintro ⟨H1, H2, H3, H4, H5⟩
  isplitl [H1]; · iexact H1
  isplitl [H2]; · iexact H2
  isplitl [H4]; · iexact H4
  isplitl [H3]; · iexact H3
  iexact H5

/-- The same with another state kept in front. -/
theorem step_wait' {α : Type} {Q : α → sProp 𝕄} (a : ℕ) (ha : a < 4) (c : Dev nD) {k : ℕ} {X R : sProp 𝕄} (hk : k < 16) (h1 : 1 ≤ k)
    (O : CellTallies nD τ sig Unit) (hmw : (levAts L lv : sProp 𝕄) ⊢ MayWait (c : Thread nD τ) (.dma (ds a k)) () O)
    {sm : DmaSem sig} (hs : sm = ds a k) {sp sp' : Space} {s s' : Shape} {e e' : EltTy} {src : Memref sig .tc sp' s' e'} {dst : Memref sig .tc sp s e}
    {hsrc : src.view.WordExact} {hdst : dst.view.WordExact} (hN : dst.view.dmaCredit = N)
    {kont : PUnit → Prog (TpuEff nD τ sig (Elt F) Λ₀ .tc) α}
    (h : iprop(know T A K ∗ owesX c O ∗ X ∗ WaitSt T A a c (k + 1) ∗ R) ⊢ WP c (kont ⟨⟩) Q) :
    iprop(know T A K ∗ owesX c O ∗ X ∗ WaitSt T A a c k ∗ R) ⊢ WP c (.op (.waitDma2 sm src dst hsrc hdst) kont) Q := by
  exact (swap34 _ _ _ _ _).trans (step_wait T A K a ha c (R := iprop(X ∗ R)) hk h1 O hmw hs hN ((swap34 _ _ _ _ _).trans h))

/-- What a slot of a buffer reads as. -/
def slotVal {e : EltTy} (j : ℕ) (hj : j < 16) (f : Slots F e) : S1x16x512.Idx → Elt F e :=
  fun x => f (ValueIdx.ix3 (⟨j, hj⟩ : Fin 16) (⟨(x 1).val, (x 1).isLt⟩ : Fin 16) (⟨(x 2).val, (x 2).isLt⟩ : Fin 512))

theorem rect_emb3 {off : Fin 3 → ℕ} {j : ℕ} (hj : j < 16) (hoff : off = ![j, 0, 0])
    (inb : ∀ a, off a + S1x16x512.size a ≤ S16x16x512.size a) (x : S1x16x512.Idx) :
    (Rect.unit (s := S16x16x512) off S1x16x512.size inb).emb x = ValueIdx.ix3 (⟨j, hj⟩ : Fin 16) (⟨(x 1).val, (x 1).isLt⟩ : Fin 16) (⟨(x 2).val, (x 2).isLt⟩ : Fin 512) := by
  subst hoff
  have h0 : (x 0).val = 0 := by have := (x 0).isLt; have e : S1x16x512.size 0 = 1 := rfl; omega
  funext a
  fin_cases a
  · exact Fin.ext (by show j + 1 * (x 0).val = j; omega)
  · exact Fin.ext (by show 0 + 1 * (x 1).val = (x 1).val; omega)
  · exact Fin.ext (by show 0 + 1 * (x 2).val = (x 2).val; omega)

/-- The load of a slot of a buffer of which at least that slot is held. -/
theorem load_slot {e : EltTy} {α : Type} {Q : α → sProp 𝕄} (c : Dev nD) {P R : sProp 𝕄}
    (M : Memref sig .tc .vmem S16x16x512 e) {off : Fin 3 → ℕ} {inb : ∀ a, off a + S1x16x512.size a ≤ S16x16x512.size a}
    {S : Finset (Idx ((M.access (Rect.unit (s := S16x16x512) off S1x16x512.size inb)).loc (c : Thread nD τ)))}
    {f : Buf (Elt F) ((M.access (Rect.unit (s := S16x16x512) off S1x16x512.size inb)).loc (c : Thread nD τ))} {v : S1x16x512.Idx → Elt F e}
    (hS : (M.access (Rect.unit (s := S16x16x512) off S1x16x512.size inb)).set ⊆ S)
    (hv : (M.access (Rect.unit (s := S16x16x512) off S1x16x512.size inb)).read (Elt F) f = v)
    {hl : M.view.LoadsAt (Rect.unit (s := S16x16x512) off S1x16x512.size inb).toLoadRect}
    {kont : (S1x16x512.Idx → Elt F e) → Prog (TpuEff nD τ sig (Elt F) Λ₀ .tc) α}
    (hP : P = ((M.access (Rect.unit (s := S16x16x512) off S1x16x512.size inb)).loc (c : Thread nD τ) ↦[S]{fullShare} f : sProp 𝕄))
    (h : iprop(P ∗ R) ⊢ WP c (kont v) Q) :
    iprop(P ∗ R) ⊢ WP c (.op (.load M (Rect.unit (s := S16x16x512) off S1x16x512.size inb).toLoadRect hl) kont) Q := by
  subst hP hv
  iintro ⟨HP, HR⟩
  iapply (wp_load_rect 𝒱₀ (c : Thread nD τ) none Set.univ (m := M) (r := Rect.unit (s := S16x16x512) off S1x16x512.size inb) hS) $$ HP
  iintro HP
  iapply h
  isplitl [HP]; · iexact HP
  iexact HR

omit [FloatOps F] in
theorem slot_front (P₁ P₂ P₃ P₄ P₅ P₆ P₇ : sProp 𝕄) :
    iprop(P₁ ∗ P₂ ∗ (P₃ ∗ (P₄ ∗ P₅) ∗ P₆) ∗ P₇) ⊣⊢ iprop(P₄ ∗ P₁ ∗ P₂ ∗ (P₃ ∗ P₅ ∗ P₆) ∗ P₇) := by
  constructor
  · iintro ⟨H1, H2, ⟨H3, ⟨H4, H5⟩, H6⟩, H7⟩
    isplitl [H4]; · iexact H4
    isplitl [H1]; · iexact H1
    isplitl [H2]; · iexact H2
    isplitr [H7]
    · isplitl [H3]; · iexact H3
      isplitl [H5]; · iexact H5
      iexact H6
    iexact H7
  · iintro ⟨H4, H1, H2, ⟨H3, H5, H6⟩, H7⟩
    isplitl [H1]; · iexact H1
    isplitl [H2]; · iexact H2
    isplitr [H7]
    · isplitl [H3]; · iexact H3
      isplitl [H4 H5]
      · isplitl [H4]; · iexact H4
        iexact H5
      iexact H6
    iexact H7

/-- The load of a scattered slot that the last wait handed over. -/
theorem step_load_rcv {α : Type} {Q : α → sProp 𝕄} (c : Dev nD) {k : ℕ} {X R : sProp 𝕄} (hk : k < 16) (h1 : 1 ≤ k)
    {off : Fin 3 → ℕ} (hoff : off = ![k, 0, 0]) {inb : ∀ a, off a + S1x16x512.size a ≤ S16x16x512.size a}
    {hl : rcvM.view.LoadsAt (Rect.unit (s := S16x16x512) off S1x16x512.size inb).toLoadRect}
    {kont : (S1x16x512.Idx → Elt F .bf16) → Prog (TpuEff nD τ sig (Elt F) Λ₀ .tc) α}
    (h : iprop(know T A K ∗ X ∗ WaitSt T A 1 c (k + 1) ∗ R) ⊢ WP c (kont (slotVal k hk (landA T c))) Q) :
    iprop(know T A K ∗ X ∗ WaitSt T A 1 c (k + 1) ∗ R)
      ⊢ WP c (.op (.load rcvM (Rect.unit (s := S16x16x512) off S1x16x512.size inb).toLoadRect hl) kont) Q := by
  have hset : (rcvM.access (Rect.unit (s := S16x16x512) off S1x16x512.size inb)).set = slotSet k := by
    show ((View.whole cc0_scratch2).slice _).set = _
    rw [View.set_slice_whole]; exact slotRect_set hoff inb
  have hval : (rcvM.access (Rect.unit (s := S16x16x512) off S1x16x512.size inb)).read (Elt F) (landA T c) = slotVal k hk (landA T c) :=
    funext fun x => congrArg (landA T c) (rect_emb3 hk hoff inb x)
  unfold WaitSt at h ⊢
  rw [bigSep_Ico_succ_top h1] at h ⊢
  have e : pay T A 1 c k = rcvP c k (landA T c) := rfl
  rw [e] at h ⊢
  exact (slot_front _ _ _ _ _ _ _).1.trans (load_slot c rcvM (off := off) (inb := inb) (S := slotSet k) (f := landA T c)
    (hset ▸ Finset.Subset.refl _) hval rfl ((slot_front _ _ _ _ _ _ _).2.trans h))

/-- The load of a gathered slot that the last wait handed over. -/
theorem step_load_gat {α : Type} {Q : α → sProp 𝕄} (c : Dev nD) {k : ℕ} {X R : sProp 𝕄} (hk : k < 16) (h1 : 1 ≤ k)
    {off : Fin 3 → ℕ} (hoff : off = ![k, 0, 0]) {inb : ∀ a, off a + S1x16x512.size a ≤ S16x16x512.size a}
    {hl : gatM.view.LoadsAt (Rect.unit (s := S16x16x512) off S1x16x512.size inb).toLoadRect}
    {kont : (S1x16x512.Idx → Elt F .bf16) → Prog (TpuEff nD τ sig (Elt F) Λ₀ .tc) α}
    (h : iprop(know T A K ∗ X ∗ WaitSt T A 3 c (k + 1) ∗ R) ⊢ WP c (kont (slotVal k hk (landB A c))) Q) :
    iprop(know T A K ∗ X ∗ WaitSt T A 3 c (k + 1) ∗ R)
      ⊢ WP c (.op (.load gatM (Rect.unit (s := S16x16x512) off S1x16x512.size inb).toLoadRect hl) kont) Q := by
  have hset : (gatM.access (Rect.unit (s := S16x16x512) off S1x16x512.size inb)).set = slotSet k := by
    show ((View.whole cc0_scratch4).slice _).set = _
    rw [View.set_slice_whole]; exact slotRect_set hoff inb
  have hval : (gatM.access (Rect.unit (s := S16x16x512) off S1x16x512.size inb)).read (Elt F) (landB A c) = slotVal k hk (landB A c) :=
    funext fun x => congrArg (landB A c) (rect_emb3 hk hoff inb x)
  unfold WaitSt at h ⊢
  rw [bigSep_Ico_succ_top h1] at h ⊢
  have e : pay T A 3 c k = gatP c k (landB A c) := rfl
  rw [e] at h ⊢
  exact (slot_front _ _ _ _ _ _ _).1.trans (load_slot c gatM (off := off) (inb := inb) (S := slotSet k) (f := landB A c)
    (hset ▸ Finset.Subset.refl _) hval rfl ((slot_front _ _ _ _ _ _ _).2.trans h))

/-! ## The result -/

abbrev outM : Memref sig .tc .vmem S16x16x512 .f32 := Memref.whole cc0_stg5_0

/-- The result's buffer, holding `FIN` in the slots of peers `0 … k - 1`. -/
def OutSt (FIN : Slots F .f32) (c : Dev nD) (k : ℕ) : sProp 𝕄 :=
  iprop(∃ f : Slots F .f32, ⌜∀ i, (∃ o, o < k ∧ (i 0).val = (pr c o).val) → f i = FIN i⌝ ∗ (((c : Thread nD τ).loc cc0_stg5_0) ↦{fullShare} f))

/-- A load of the result's buffer whose value nothing uses. -/
theorem step_out_load {FIN : Slots F .f32} {α : Type} {Q : α → sProp 𝕄} (c : Dev nD) {k : ℕ} {X Y Z R : sProp 𝕄}
    {r : LoadRect S16x16x512} {hl : outM.view.LoadsAt r} {kont : (r.shape.Idx → Elt F .f32) → Prog (TpuEff nD τ sig (Elt F) Λ₀ .tc) α}
    (h : ∀ v, iprop(X ∗ Y ∗ Z ∗ OutSt FIN c k ∗ R) ⊢ WP c (kont v) Q) :
    iprop(X ∗ Y ∗ Z ∗ OutSt FIN c k ∗ R) ⊢ WP c (.op (.load outM r hl) kont) Q := by
  unfold OutSt at h ⊢
  iintro ⟨HX, HY, HZ, ⟨%f, %hf, Hf⟩, HR⟩
  iapply (wp_load 𝒱₀ (c : Thread nD τ) none Set.univ (m := outM) (Finset.subset_univ _)) $$ Hf
  iintro Hf
  iapply (h _)
  isplitl [HX]; · iexact HX
  isplitl [HY]; · iexact HY
  isplitl [HZ]; · iexact HZ
  isplitl [Hf]
  · iexists f
    isplitr; · ipureintro; exact hf
    iexact Hf
  iexact HR

/-- The store of peer `k`'s slot of the result. -/
theorem step_out_store {FIN : Slots F .f32} {α : Type} {Q : α → sProp 𝕄} (c : Dev nD) {k : ℕ} {X Y Z R : sProp 𝕄} (hk : k < 16)
    {off : Fin 3 → ℕ} (hoff : off = ![(pr c k).val, 0, 0]) {inb : ∀ a, off a + S1x16x512.size a ≤ S16x16x512.size a}
    {w : S1x16x512.Idx → Elt F .f32} (hw : w = slotVal (pr c k).val (pr_val_lt c k) FIN)
    {hx : (outM.access (Rect.unit (s := S16x16x512) off S1x16x512.size inb)).Stores Finset.univ} {hm : Finset.univ = Finset.univ ∨ ∀ a, (Rect.unit (s := S16x16x512) off S1x16x512.size inb).stride a = 1}
    {kont : PUnit → Prog (TpuEff nD τ sig (Elt F) Λ₀ .tc) α}
    (h : iprop(X ∗ Y ∗ Z ∗ OutSt FIN c (k + 1) ∗ R) ⊢ WP c (kont ⟨⟩) Q) :
    iprop(X ∗ Y ∗ Z ∗ OutSt FIN c k ∗ R)
      ⊢ WP c (.op (.store outM (Rect.unit (s := S16x16x512) off S1x16x512.size inb) w Finset.univ hx hm) kont) Q := by
  subst hw
  unfold OutSt at h ⊢
  have hset : (outM.access (Rect.unit (s := S16x16x512) off S1x16x512.size inb)).set = slotSet (pr c k).val := by
    show ((View.whole cc0_stg5_0).slice _).set = _
    rw [View.set_slice_whole]; exact slotRect_set hoff inb
  iintro ⟨HX, HY, HZ, ⟨%f, %hf, Hf⟩, HR⟩
  iapply (wp_store 𝒱₀ (c : Thread nD τ) none Set.univ (m := outM) (r := Rect.unit (s := S16x16x512) off S1x16x512.size inb) (Mk := Finset.univ) (Finset.subset_univ _)) $$ Hf
  iintro Hf
  iapply h
  isplitl [HX]; · iexact HX
  isplitl [HY]; · iexact HY
  isplitl [HZ]; · iexact HZ
  isplitl [Hf]
  · iexists _
    isplitr
    rotate_left
    · iexact Hf
    · ipureintro
      rintro i ⟨o, ho, hi⟩
      by_cases hok : (i 0).val = (pr c k).val
      · have e : i = (outM.access (Rect.unit (s := S16x16x512) off S1x16x512.size inb)).emb
            (ValueIdx.ix3 (⟨0, Nat.one_pos⟩ : Fin 1) (⟨(i 1).val, (i 1).isLt⟩ : Fin 16) (⟨(i 2).val, (i 2).isLt⟩ : Fin 512)) := by
          refine Eq.trans ?_ (rect_emb3 (pr_val_lt c k) hoff inb _).symm
          funext a; fin_cases a
          · exact Fin.ext hok
          · rfl
          · rfl
        refine (congrArg _ e).trans ((View.write_emb_of_mem (Val := Elt F) _ _ (Finset.mem_univ _)).trans ?_)
        show slotVal _ _ FIN _ = _
        unfold slotVal
        refine congrArg FIN ?_
        funext a; fin_cases a
        · exact Fin.ext hok.symm
        · rfl
        · rfl
      · refine (View.write_of_not_mem _ _ _ ?_).trans (hf i ⟨o, ?_, hi⟩)
        · rw [View.setOn_univ, hset, mem_slotSet]; exact hok
        · rcases Nat.lt_succ_iff_lt_or_eq.mp ho with h' | h'
          · exact h'
          · exact absurd (h' ▸ hi) hok
  iexact HR

end Know

end Cert.KernelIdeal.Xch

end
-- ==== Proof.KernelIdeal.Ops.lean ====
/-
  The operations of the body in the forms its parts use them: offsets and peers computed by the program, the inputs
  held aside, the two stores that fill a buffer of sixteen slots by halves, the finished chunk.
-/
module

public import proofs.«01_k».proof.Proof.KernelIdeal.Steps

@[expose] public section

noncomputable section

namespace Cert.KernelIdeal.Xch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A part of the body applied to the launch's buffers and semaphores. -/
abbrev Part (β : Type 1) : Type 1 :=
  (arg0 : Memref sig .tc .vmem S2x128x512 .bf16) → arg0.IsWhole → (arg1 : Memref sig .tc .vmem S512x512 .bf16) → arg1.IsWhole →
  (arg2 : Memref sig .tc .vmem S512x512 .bf16) → arg2.IsWhole → (arg3 : Memref sig .tc .vmem S2x128x8x64 .bf16) → arg3.IsWhole →
  (arg4 : Memref sig .tc .vmem S2x128x8x64 .bf16) → arg4.IsWhole → (arg5 : Memref sig .tc .vmem S16x16x512 .f32) → arg5.IsWhole →
  (arg6 : Memref sig .tc .vmem S16x16x512 .f32) → arg6.IsWhole → (arg7 : Memref sig .tc .vmem S16x16x512 .bf16) → arg7.IsWhole →
  (arg8 : Memref sig .tc .vmem S16x16x512 .bf16) → arg8.IsWhole → (arg9 : Memref sig .tc .vmem S16x512 .bf16) → arg9.IsWhole →
  (arg10 : Memref sig .tc .vmem S16x16x512 .bf16) → arg10.IsWhole →
  DmaSems sig S16 → DmaSems sig S16 → DmaSems sig S16 → DmaSems sig S16 → β

abbrev bufs {β : Type 1} (p : Part β) : β :=
  p (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8

/-! ## The inputs -/

/-- What the five input windows hold. -/
structure Inp (F : FTy → Type) where
  x : S2x128x512.Idx → Elt F .bf16
  wq : S512x512.Idx → Elt F .bf16
  wo : S512x512.Idx → Elt F .bf16
  k : S2x128x8x64.Idx → Elt F .bf16
  v : S2x128x8x64.Idx → Elt F .bf16

def Ins (c : Dev nD) (I : Inp F) : sProp 𝕄 :=
  iprop((((c : Thread nD τ).loc cc0_stg0_0) ↦{fullShare} I.x) ∗ (((c : Thread nD τ).loc cc0_stg1_0) ↦{fullShare} I.wq)
    ∗ (((c : Thread nD τ).loc cc0_stg2_0) ↦{fullShare} I.wo) ∗ (((c : Thread nD τ).loc cc0_stg3_0) ↦{fullShare} I.k)
    ∗ (((c : Thread nD τ).loc cc0_stg4_0) ↦{fullShare} I.v))

abbrev xM : Memref sig .tc .vmem S2x128x512 .bf16 := Memref.whole cc0_stg0_0
abbrev wqM : Memref sig .tc .vmem S512x512 .bf16 := Memref.whole cc0_stg1_0
abbrev woM : Memref sig .tc .vmem S512x512 .bf16 := Memref.whole cc0_stg2_0
abbrev kM : Memref sig .tc .vmem S2x128x8x64 .bf16 := Memref.whole cc0_stg3_0
abbrev vM : Memref sig .tc .vmem S2x128x8x64 .bf16 := Memref.whole cc0_stg4_0
abbrev partM : Memref sig .tc .vmem S16x16x512 .f32 := Memref.whole cc0_scratch0

/-- Batch `b` of the activations. -/
def xV (b : Fin 2) (f : S2x128x512.Idx → Elt F .bf16) : S1x128x512.Idx → Elt F .bf16 :=
  fun y => f (ValueIdx.ix3 b (⟨(y 1).val, (y 1).isLt⟩ : Fin 128) (⟨(y 2).val, (y 2).isLt⟩ : Fin 512))
/-- Batch `b` and head `h` of the keys or of the values. -/
def hV (b : Fin 2) (h : Fin 8) (f : S2x128x8x64.Idx → Elt F .bf16) : S1x128x1x64.Idx → Elt F .bf16 :=
  fun y => f (ValueIdx.ix4 b (⟨(y 1).val, (y 1).isLt⟩ : Fin 128) h (⟨(y 3).val, (y 3).isLt⟩ : Fin 64))
/-- The sixty-four rows of the output weights that head `h` meets. -/
def oV (h : Fin 8) (f : S512x512.Idx → Elt F .bf16) : S64x512.Idx → Elt F .bf16 :=
  fun y => f (ValueIdx.ix2 (⟨64 * h.val + (y 0).val, by have h0 : (y 0).val < 64 := (y 0).isLt; omega⟩ : Fin 512) (⟨(y 1).val, (y 1).isLt⟩ : Fin 512))

theorem emb_x {b : Fin 2} {off : Fin 3 → ℕ} (hoff : off = ![b.val, 0, 0]) (inb : ∀ a, off a + S1x128x512.size a ≤ S2x128x512.size a) (y : S1x128x512.Idx) :
    (Rect.unit (s := S2x128x512) off S1x128x512.size inb).emb y = ValueIdx.ix3 b (⟨(y 1).val, (y 1).isLt⟩ : Fin 128) (⟨(y 2).val, (y 2).isLt⟩ : Fin 512) := by
  subst hoff
  have h0 : (y 0).val = 0 := by have := (y 0).isLt; have e : S1x128x512.size 0 = 1 := rfl; omega
  funext a
  fin_cases a <;> exact Fin.ext (by simp [Rect.emb, Rect.unit, ValueIdx.ix3, h0])

theorem emb_h {b : Fin 2} {h : Fin 8} {off : Fin 4 → ℕ} (hoff : off = ![b.val, 0, h.val, 0]) (inb : ∀ a, off a + S1x128x1x64.size a ≤ S2x128x8x64.size a) (y : S1x128x1x64.Idx) :
    (Rect.unit (s := S2x128x8x64) off S1x128x1x64.size inb).emb y = ValueIdx.ix4 b (⟨(y 1).val, (y 1).isLt⟩ : Fin 128) h (⟨(y 3).val, (y 3).isLt⟩ : Fin 64) := by
  subst hoff
  have h0 : (y 0).val = 0 := by have := (y 0).isLt; have e : S1x128x1x64.size 0 = 1 := rfl; omega
  have h2 : (y 2).val = 0 := by have := (y 2).isLt; have e : S1x128x1x64.size 2 = 1 := rfl; omega
  funext a
  fin_cases a <;> exact Fin.ext (by simp [Rect.emb, Rect.unit, ValueIdx.ix4, h0, h2])

theorem emb_o {h : Fin 8} {off : Fin 2 → ℕ} (hoff : off = ![64 * h.val, 0]) (inb : ∀ a, off a + S64x512.size a ≤ S512x512.size a) (y : S64x512.Idx) :
    (Rect.unit (s := S512x512) off S64x512.size inb).emb y
      = ValueIdx.ix2 (⟨64 * h.val + (y 0).val, by have h0 : (y 0).val < 64 := (y 0).isLt; omega⟩ : Fin 512) (⟨(y 1).val, (y 1).isLt⟩ : Fin 512) := by
  subst hoff
  funext a
  fin_cases a <;> exact Fin.ext (by simp [Rect.emb, Rect.unit, ValueIdx.ix2])

theorem emb_q {off : Fin 2 → ℕ} (hoff : off = ![0, 0]) (inb : ∀ a, off a + S512x512.size a ≤ S512x512.size a) (y : S512x512.Idx) :
    (Rect.unit (s := S512x512) off S512x512.size inb).emb y = y := by
  subst hoff
  funext a
  fin_cases a <;> exact Fin.ext (by simp [Rect.emb, Rect.unit])

section Loads

theorem load_x {α : Type} {Q : α → sProp 𝕄} {c : Dev nD} {I : Inp F} {R : sProp 𝕄} (b : Fin 2)
    {off : Fin 3 → ℕ} {inb : ∀ a, off a + S1x128x512.size a ≤ S2x128x512.size a}
    {hl : xM.view.LoadsAt (Rect.unit (s := S2x128x512) off S1x128x512.size inb).toLoadRect}
    {kont : (S1x128x512.Idx → Elt F .bf16) → Prog (TpuEff nD τ sig (Elt F) Λ₀ .tc) α}
    (h : iprop(Ins c I ∗ R) ⊢ WP c (kont (xV b I.x)) Q) (hoff : off = ![b.val, 0, 0] := by rfl) :
    iprop(Ins c I ∗ R) ⊢ WP c (.op (.load xM (Rect.unit (s := S2x128x512) off S1x128x512.size inb).toLoadRect hl) kont) Q := by
  have hval : (xM.access (Rect.unit (s := S2x128x512) off S1x128x512.size inb)).read (Elt F) I.x = xV b I.x :=
    funext fun y => congrArg I.x (emb_x hoff inb y)
  rw [← hval] at h
  unfold Ins at h ⊢
  iintro ⟨⟨H1, H2, H3, H4, H5⟩, HR⟩
  iapply (wp_load_rect 𝒱₀ (c : Thread nD τ) none Set.univ (m := xM) (r := Rect.unit (s := S2x128x512) off S1x128x512.size inb) (Finset.subset_univ _)) $$ H1
  iintro H1
  iapply h
  isplitr [HR]
  · isplitl [H1]; · iexact H1
    isplitl [H2]; · iexact H2
    isplitl [H3]; · iexact H3
    isplitl [H4]; · iexact H4
    iexact H5
  iexact HR

theorem load_wq {α : Type} {Q : α → sProp 𝕄} {c : Dev nD} {I : Inp F} {R : sProp 𝕄}
    {off : Fin 2 → ℕ} {inb : ∀ a, off a + S512x512.size a ≤ S512x512.size a}
    {hl : wqM.view.LoadsAt (Rect.unit (s := S512x512) off S512x512.size inb).toLoadRect}
    {kont : (S512x512.Idx → Elt F .bf16) → Prog (TpuEff nD τ sig (Elt F) Λ₀ .tc) α}
    (h : iprop(Ins c I ∗ R) ⊢ WP c (kont (I.wq)) Q) (hoff : off = ![0, 0] := by rfl) :
    iprop(Ins c I ∗ R) ⊢ WP c (.op (.load wqM (Rect.unit (s := S512x512) off S512x512.size inb).toLoadRect hl) kont) Q := by
  have hval : (wqM.access (Rect.unit (s := S512x512) off S512x512.size inb)).read (Elt F) I.wq = I.wq :=
    funext fun y => congrArg I.wq (emb_q hoff inb y)
  rw [← hval] at h
  unfold Ins at h ⊢
  iintro ⟨⟨H1, H2, H3, H4, H5⟩, HR⟩
  iapply (wp_load_rect 𝒱₀ (c : Thread nD τ) none Set.univ (m := wqM) (r := Rect.unit (s := S512x512) off S512x512.size inb) (Finset.subset_univ _)) $$ H2
  iintro H2
  iapply h
  isplitr [HR]
  · isplitl [H1]; · iexact H1
    isplitl [H2]; · iexact H2
    isplitl [H3]; · iexact H3
    isplitl [H4]; · iexact H4
    iexact H5
  iexact HR

theorem load_wo {α : Type} {Q : α → sProp 𝕄} {c : Dev nD} {I : Inp F} {R : sProp 𝕄} (h' : Fin 8)
    {off : Fin 2 → ℕ} {inb : ∀ a, off a + S64x512.size a ≤ S512x512.size a}
    {hl : woM.view.LoadsAt (Rect.unit (s := S512x512) off S64x512.size inb).toLoadRect}
    {kont : (S64x512.Idx → Elt F .bf16) → Prog (TpuEff nD τ sig (Elt F) Λ₀ .tc) α}
    (h : iprop(Ins c I ∗ R) ⊢ WP c (kont (oV h' I.wo)) Q) (hoff : off = ![64 * h'.val, 0] := by rfl) :
    iprop(Ins c I ∗ R) ⊢ WP c (.op (.load woM (Rect.unit (s := S512x512) off S64x512.size inb).toLoadRect hl) kont) Q := by
  have hval : (woM.access (Rect.unit (s := S512x512) off S64x512.size inb)).read (Elt F) I.wo = oV h' I.wo :=
    funext fun y => congrArg I.wo (emb_o hoff inb y)
  rw [← hval] at h
  unfold Ins at h ⊢
  iintro ⟨⟨H1, H2, H3, H4, H5⟩, HR⟩
  iapply (wp_load_rect 𝒱₀ (c : Thread nD τ) none Set.univ (m := woM) (r := Rect.unit (s := S512x512) off S64x512.size inb) (Finset.subset_univ _)) $$ H3
  iintro H3
  iapply h
  isplitr [HR]
  · isplitl [H1]; · iexact H1
    isplitl [H2]; · iexact H2
    isplitl [H3]; · iexact H3
    isplitl [H4]; · iexact H4
    iexact H5
  iexact HR

theorem load_k {α : Type} {Q : α → sProp 𝕄} {c : Dev nD} {I : Inp F} {R : sProp 𝕄} (b : Fin 2) (h' : Fin 8)
    {off : Fin 4 → ℕ} {inb : ∀ a, off a + S1x128x1x64.size a ≤ S2x128x8x64.size a}
    {hl : kM.view.LoadsAt (Rect.unit (s := S2x128x8x64) off S1x128x1x64.size inb).toLoadRect}
    {kont : (S1x128x1x64.Idx → Elt F .bf16) → Prog (TpuEff nD τ sig (Elt F) Λ₀ .tc) α}
    (h : iprop(Ins c I ∗ R) ⊢ WP c (kont (hV b h' I.k)) Q) (hoff : off = ![b.val, 0, h'.val, 0] := by rfl) :
    iprop(Ins c I ∗ R) ⊢ WP c (.op (.load kM (Rect.unit (s := S2x128x8x64) off S1x128x1x64.size inb).toLoadRect hl) kont) Q := by
  have hval : (kM.access (Rect.unit (s := S2x128x8x64) off S1x128x1x64.size inb)).read (Elt F) I.k = hV b h' I.k :=
    funext fun y => congrArg I.k (emb_h hoff inb y)
  rw [← hval] at h
  unfold Ins at h ⊢
  iintro ⟨⟨H1, H2, H3, H4, H5⟩, HR⟩
  iapply (wp_load_rect 𝒱₀ (c : Thread nD τ) none Set.univ (m := kM) (r := Rect.unit (s := S2x128x8x64) off S1x128x1x64.size inb) (Finset.subset_univ _)) $$ H4
  iintro H4
  iapply h
  isplitr [HR]
  · isplitl [H1]; · iexact H1
    isplitl [H2]; · iexact H2
    isplitl [H3]; · iexact H3
    isplitl [H4]; · iexact H4
    iexact H5
  iexact HR

theorem load_v {α : Type} {Q : α → sProp 𝕄} {c : Dev nD} {I : Inp F} {R : sProp 𝕄} (b : Fin 2) (h' : Fin 8)
    {off : Fin 4 → ℕ} {inb : ∀ a, off a + S1x128x1x64.size a ≤ S2x128x8x64.size a}
    {hl : vM.view.LoadsAt (Rect.unit (s := S2x128x8x64) off S1x128x1x64.size inb).toLoadRect}
    {kont : (S1x128x1x64.Idx → Elt F .bf16) → Prog (TpuEff nD τ sig (Elt F) Λ₀ .tc) α}
    (h : iprop(Ins c I ∗ R) ⊢ WP c (kont (hV b h' I.v)) Q) (hoff : off = ![b.val, 0, h'.val, 0] := by rfl) :
    iprop(Ins c I ∗ R) ⊢ WP c (.op (.load vM (Rect.unit (s := S2x128x8x64) off S1x128x1x64.size inb).toLoadRect hl) kont) Q := by
  have hval : (vM.access (Rect.unit (s := S2x128x8x64) off S1x128x1x64.size inb)).read (Elt F) I.v = hV b h' I.v :=
    funext fun y => congrArg I.v (emb_h hoff inb y)
  rw [← hval] at h
  unfold Ins at h ⊢
  iintro ⟨⟨H1, H2, H3, H4, H5⟩, HR⟩
  iapply (wp_load_rect 𝒱₀ (c : Thread nD τ) none Set.univ (m := vM) (r := Rect.unit (s := S2x128x8x64) off S1x128x1x64.size inb) (Finset.subset_univ _)) $$ H5
  iintro H5
  iapply h
  isplitr [HR]
  · isplitl [H1]; · iexact H1
    isplitl [H2]; · iexact H2
    isplitl [H3]; · iexact H3
    isplitl [H4]; · iexact H4
    iexact H5
  iexact HR

end Loads

/-! ## The two stores that fill a buffer of sixteen slots by halves -/

/-- The slots below `k` of the partial sums are as in `P`. -/
def LoP (c : Dev nD) (P : Slots F .f32) (k : ℕ) : sProp 𝕄 :=
  iprop(∃ f : Slots F .f32, ⌜∀ i, (i 0).val < k → f i = P i⌝ ∗ (((c : Thread nD τ).loc cc0_scratch0) ↦{fullShare} f))
/-- The slots below `k` of the staged partial sums are as in `T`. -/
def LoT (c : Dev nD) (T : Slots F .bf16) (k : ℕ) : sProp 𝕄 :=
  iprop(∃ f : Slots F .bf16, ⌜∀ i, (i 0).val < k → f i = T i⌝ ∗ (((c : Thread nD τ).loc cc0_scratch1) ↦{fullShare} f))

/-- Where place `x` of the half that starts at slot `k` is. -/
theorem half_emb {off : Fin 3 → ℕ} {k : ℕ} (hoff : off = ![k, 0, 0]) (inb : ∀ a, off a + S8x16x512.size a ≤ S16x16x512.size a) (x : S8x16x512.Idx)
    (hx : k + (x 0).val < 16) :
    (Rect.unit (s := S16x16x512) off S8x16x512.size inb).emb x = ValueIdx.ix3 (⟨k + (x 0).val, hx⟩ : Fin 16) (⟨(x 1).val, (x 1).isLt⟩ : Fin 16) (⟨(x 2).val, (x 2).isLt⟩ : Fin 512) := by
  subst hoff
  funext a
  fin_cases a <;> exact Fin.ext (by simp [Rect.emb, Rect.unit, ValueIdx.ix3])

/-- An index of the half that starts at slot `k` is an image of the half's rectangle. -/
theorem half_mem {off : Fin 3 → ℕ} {k : ℕ} (hoff : off = ![k, 0, 0]) (inb : ∀ a, off a + S8x16x512.size a ≤ S16x16x512.size a) (i : S16x16x512.Idx)
    (h1 : k ≤ (i 0).val) (h2 : (i 0).val < k + 8) :
    i = (Rect.unit (s := S16x16x512) off S8x16x512.size inb).emb
      (ValueIdx.ix3 (⟨(i 0).val - k, by omega⟩ : Fin 8) (⟨(i 1).val, (i 1).isLt⟩ : Fin 16) (⟨(i 2).val, (i 2).isLt⟩ : Fin 512)) := by
  have h16 : (i 0).val < 16 := (i 0).isLt
  rw [half_emb hoff inb _ (show k + ((i 0).val - k) < 16 by omega)]
  funext a
  fin_cases a
  · exact Fin.ext (show (i 0).val = k + ((i 0).val - k) by omega)
  · rfl
  · rfl

/-- An image of the half's rectangle has its slot in the half. -/
theorem half_not_mem {off : Fin 3 → ℕ} {k : ℕ} (hoff : off = ![k, 0, 0]) (inb : ∀ a, off a + S8x16x512.size a ≤ S16x16x512.size a) (x : S8x16x512.Idx) :
    k ≤ ((Rect.unit (s := S16x16x512) off S8x16x512.size inb).emb x 0).val := by
  subst hoff
  simp [Rect.emb, Rect.unit]

section Halves

theorem load_half_part {α : Type} {Q : α → sProp 𝕄} (c : Dev nD) {P : Slots F .f32} {T : Slots F .bf16} {k k' : ℕ} {X R : sProp 𝕄}
    {r : LoadRect S16x16x512} {hl : partM.view.LoadsAt r} {kont : (r.shape.Idx → Elt F .f32) → Prog (TpuEff nD τ sig (Elt F) Λ₀ .tc) α}
    (h : ∀ v, iprop(X ∗ (LoP c P k ∗ LoT c T k') ∗ R) ⊢ WP c (kont v) Q) :
    iprop(X ∗ (LoP c P k ∗ LoT c T k') ∗ R) ⊢ WP c (.op (.load partM r hl) kont) Q := by
  unfold LoP at h ⊢
  iintro ⟨HX, ⟨⟨%f, %hf, Hf⟩, HT⟩, HR⟩
  iapply (wp_load 𝒱₀ (c : Thread nD τ) none Set.univ (m := partM) (r := r) (Finset.subset_univ _)) $$ Hf
  iintro Hf
  iapply (h _)
  isplitl [HX]; · iexact HX
  isplitl [Hf HT]
  · isplitl [Hf]
    · iexists f
      isplitr; · ipureintro; exact hf
      iexact Hf
    iexact HT
  iexact HR

theorem load_half_stg {α : Type} {Q : α → sProp 𝕄} (c : Dev nD) {P : Slots F .f32} {T : Slots F .bf16} {k k' : ℕ} {X R : sProp 𝕄}
    {r : LoadRect S16x16x512} {hl : stgM.view.LoadsAt r} {kont : (r.shape.Idx → Elt F .bf16) → Prog (TpuEff nD τ sig (Elt F) Λ₀ .tc) α}
    (h : ∀ v, iprop(X ∗ (LoP c P k ∗ LoT c T k') ∗ R) ⊢ WP c (kont v) Q) :
    iprop(X ∗ (LoP c P k ∗ LoT c T k') ∗ R) ⊢ WP c (.op (.load stgM r hl) kont) Q := by
  unfold LoT at h ⊢
  iintro ⟨HX, ⟨HP, ⟨%f, %hf, Hf⟩⟩, HR⟩
  iapply (wp_load 𝒱₀ (c : Thread nD τ) none Set.univ (m := stgM) (r := r) (Finset.subset_univ _)) $$ Hf
  iintro Hf
  iapply (h _)
  isplitl [HX]; · iexact HX
  isplitl [Hf HP]
  · isplitl [HP]; · iexact HP
    iexists f
    isplitr; · ipureintro; exact hf
    iexact Hf
  iexact HR

theorem store_half_part {α : Type} {Q : α → sProp 𝕄} (c : Dev nD) {P : Slots F .f32} {T : Slots F .bf16} {k k' : ℕ} {X R : sProp 𝕄}
    (hk : k + 8 ≤ 16) {off : Fin 3 → ℕ} (hoff : off = ![k, 0, 0]) {inb : ∀ a, off a + S8x16x512.size a ≤ S16x16x512.size a}
    {w : S8x16x512.Idx → Elt F .f32}
    (hw : ∀ (x : S8x16x512.Idx) (hx : k + (x 0).val < 16), w x = P (ValueIdx.ix3 (⟨k + (x 0).val, hx⟩ : Fin 16) (⟨(x 1).val, (x 1).isLt⟩ : Fin 16) (⟨(x 2).val, (x 2).isLt⟩ : Fin 512)))
    {hx : (partM.access (Rect.unit (s := S16x16x512) off S8x16x512.size inb)).Stores Finset.univ} {hm : Finset.univ = Finset.univ ∨ ∀ a, (Rect.unit (s := S16x16x512) off S8x16x512.size inb).stride a = 1}
    {kont : PUnit → Prog (TpuEff nD τ sig (Elt F) Λ₀ .tc) α}
    (h : iprop(X ∗ (LoP c P (k + 8) ∗ LoT c T k') ∗ R) ⊢ WP c (kont ⟨⟩) Q) :
    iprop(X ∗ (LoP c P k ∗ LoT c T k') ∗ R)
      ⊢ WP c (.op (.store partM (Rect.unit (s := S16x16x512) off S8x16x512.size inb) w Finset.univ hx hm) kont) Q := by
  unfold LoP at h ⊢
  iintro ⟨HX, ⟨⟨%f, %hf, Hf⟩, HT⟩, HR⟩
  iapply (wp_store 𝒱₀ (c : Thread nD τ) none Set.univ (m := partM) (r := Rect.unit (s := S16x16x512) off S8x16x512.size inb) (Mk := Finset.univ) (Finset.subset_univ _)) $$ Hf
  iintro Hf
  iapply h
  isplitl [HX]; · iexact HX
  isplitl [Hf HT]
  · isplitl [Hf]
    · iexists _
      isplitr
      rotate_left
      · iexact Hf
      · ipureintro
        intro i hi
        by_cases hik : k ≤ (i 0).val
        · have e := half_mem hoff inb i hik hi
          refine (congrArg _ e).trans ((View.write_emb_of_mem (Val := Elt F) (v := partM.access (Rect.unit (s := S16x16x512) off S8x16x512.size inb)) _ _ (Finset.mem_univ _)).trans ?_)
          rw [hw _ (show k + ((i 0).val - k) < 16 from by have := (i 0).isLt; omega)]
          refine congrArg P ?_
          funext a; fin_cases a
          · exact Fin.ext (show k + ((i 0).val - k) = (i 0).val by omega)
          · rfl
          · rfl
        · refine (View.write_of_not_mem _ _ _ ?_).trans (hf i (by omega))
          rw [View.setOn_univ]
          intro hi'
          obtain ⟨x, _, rfl⟩ := Finset.mem_map.mp hi'
          exact hik (half_not_mem hoff inb x)
    iexact HT
  iexact HR

theorem store_half_stg {α : Type} {Q : α → sProp 𝕄} (c : Dev nD) {P : Slots F .f32} {T : Slots F .bf16} {k k' : ℕ} {X R : sProp 𝕄}
    (hk : k' + 8 ≤ 16) {off : Fin 3 → ℕ} (hoff : off = ![k', 0, 0]) {inb : ∀ a, off a + S8x16x512.size a ≤ S16x16x512.size a}
    {w : S8x16x512.Idx → Elt F .bf16}
    (hw : ∀ (x : S8x16x512.Idx) (hx : k' + (x 0).val < 16), w x = T (ValueIdx.ix3 (⟨k' + (x 0).val, hx⟩ : Fin 16) (⟨(x 1).val, (x 1).isLt⟩ : Fin 16) (⟨(x 2).val, (x 2).isLt⟩ : Fin 512)))
    {hx : (stgM.access (Rect.unit (s := S16x16x512) off S8x16x512.size inb)).Stores Finset.univ} {hm : Finset.univ = Finset.univ ∨ ∀ a, (Rect.unit (s := S16x16x512) off S8x16x512.size inb).stride a = 1}
    {kont : PUnit → Prog (TpuEff nD τ sig (Elt F) Λ₀ .tc) α}
    (h : iprop(X ∗ (LoP c P k ∗ LoT c T (k' + 8)) ∗ R) ⊢ WP c (kont ⟨⟩) Q) :
    iprop(X ∗ (LoP c P k ∗ LoT c T k') ∗ R)
      ⊢ WP c (.op (.store stgM (Rect.unit (s := S16x16x512) off S8x16x512.size inb) w Finset.univ hx hm) kont) Q := by
  unfold LoT at h ⊢
  iintro ⟨HX, ⟨HP, ⟨%f, %hf, Hf⟩⟩, HR⟩
  iapply (wp_store 𝒱₀ (c : Thread nD τ) none Set.univ (m := stgM) (r := Rect.unit (s := S16x16x512) off S8x16x512.size inb) (Mk := Finset.univ) (Finset.subset_univ _)) $$ Hf
  iintro Hf
  iapply h
  isplitl [HX]; · iexact HX
  isplitl [Hf HP]
  · isplitl [HP]; · iexact HP
    iexists _
    isplitr
    rotate_left
    · iexact Hf
    · ipureintro
      intro i hi
      by_cases hik : k' ≤ (i 0).val
      · have e := half_mem hoff inb i hik hi
        refine (congrArg _ e).trans ((View.write_emb_of_mem (Val := Elt F) (v := stgM.access (Rect.unit (s := S16x16x512) off S8x16x512.size inb)) _ _ (Finset.mem_univ _)).trans ?_)
        rw [hw _ (show k' + ((i 0).val - k') < 16 from by have := (i 0).isLt; omega)]
        refine congrArg T ?_
        funext a; fin_cases a
        · exact Fin.ext (show k' + ((i 0).val - k') = (i 0).val by omega)
        · rfl
        · rfl
      · refine (View.write_of_not_mem _ _ _ ?_).trans (hf i (by omega))
        rw [View.setOn_univ]
        intro hi'
        obtain ⟨x, _, rfl⟩ := Finset.mem_map.mp hi'
        exact hik (half_not_mem hoff inb x)
  iexact HR

omit [FloatOps F] in
theorem loP_full (c : Dev nD) {P : Slots F .f32} : LoP (F := F) c P 16 ⊢ partP c P := by
  unfold LoP partP
  iintro ⟨%f, %hf, Hf⟩
  have e : f = P := funext fun i => hf i (i 0).isLt
  subst e
  iexact Hf
omit [FloatOps F] in
theorem loT_full (c : Dev nD) {T : Slots F .bf16} : LoT (F := F) c T 16 ⊢ (((c : Thread nD τ).loc cc0_scratch1) ↦{fullShare} T : sProp 𝕄) := by
  unfold LoT
  iintro ⟨%f, %hf, Hf⟩
  have e : f = T := funext fun i => hf i (i 0).isLt
  subst e
  iexact Hf

/-- The load of a device's own slot of its partial sums. -/
theorem load_part {α : Type} {Q : α → sProp 𝕄} (c : Dev nD) {P : Slots F .f32} {X R : sProp 𝕄} {Y : sProp 𝕄} {off : Fin 3 → ℕ} (hoff : off = ![c.val, 0, 0]) {inb : ∀ a, off a + S1x16x512.size a ≤ S16x16x512.size a}
    {hl : partM.view.LoadsAt (Rect.unit (s := S16x16x512) off S1x16x512.size inb).toLoadRect}
    {kont : (S1x16x512.Idx → Elt F .f32) → Prog (TpuEff nD τ sig (Elt F) Λ₀ .tc) α}
    (h : iprop(X ∗ Y ∗ partP c P ∗ R) ⊢ WP c (kont (slotVal c.val c.isLt P)) Q) :
    iprop(X ∗ Y ∗ partP c P ∗ R) ⊢ WP c (.op (.load partM (Rect.unit (s := S16x16x512) off S1x16x512.size inb).toLoadRect hl) kont) Q := by
  have hval : (partM.access (Rect.unit (s := S16x16x512) off S1x16x512.size inb)).read (Elt F) P = slotVal c.val c.isLt P :=
    funext fun x => congrArg P (rect_emb3 c.isLt hoff inb x)
  rw [← hval] at h
  unfold partP at h ⊢
  iintro ⟨HX, HY, HP, HR⟩
  iapply (wp_load_rect 𝒱₀ (c : Thread nD τ) none Set.univ (m := partM) (r := Rect.unit (s := S16x16x512) off S1x16x512.size inb) (Finset.subset_univ _)) $$ HP
  iintro HP
  iapply h
  isplitl [HX]; · iexact HX
  isplitl [HY]; · iexact HY
  isplitl [HP]; · iexact HP
  iexact HR

/-- The finished chunk's buffer: a load whose value nothing uses. -/
theorem load_chk {α : Type} {Q : α → sProp 𝕄} (c : Dev nD) {X R : sProp 𝕄} {r : LoadRect S16x512} {hl : chkM.view.LoadsAt r} {kont : (r.shape.Idx → Elt F .bf16) → Prog (TpuEff nD τ sig (Elt F) Λ₀ .tc) α}
    {Y Z : sProp 𝕄}
    (h : ∀ v, iprop(X ∗ Y ∗ Z ∗ (∃ f : Chunk F .bf16, ((c : Thread nD τ).loc cc0_scratch3) ↦{fullShare} f) ∗ R) ⊢ WP c (kont v) Q) :
    iprop(X ∗ Y ∗ Z ∗ (∃ f : Chunk F .bf16, ((c : Thread nD τ).loc cc0_scratch3) ↦{fullShare} f) ∗ R) ⊢ WP c (.op (.load chkM r hl) kont) Q := by
  iintro ⟨HX, HY, HZ, ⟨%f, Hf⟩, HR⟩
  iapply (wp_load 𝒱₀ (c : Thread nD τ) none Set.univ (m := chkM) (r := r) (Finset.subset_univ _)) $$ Hf
  iintro Hf
  iapply (h _)
  isplitl [HX]; · iexact HX
  isplitl [HY]; · iexact HY
  isplitl [HZ]; · iexact HZ
  isplitl [Hf]; · iexists f; iexact Hf
  iexact HR

/-- The store of the finished chunk: from here on fifteen shares of it, one for each copy. -/
theorem store_chk {α : Type} {Q : α → sProp 𝕄} (c : Dev nD) {X R : sProp 𝕄} {inb : ∀ a, (![0, 0] : Fin 2 → ℕ) a + S16x512.size a ≤ S16x512.size a} {w : S16x512.Idx → Elt F .bf16}
    {hx : (chkM.access (Rect.unit (s := S16x512) ![0, 0] S16x512.size inb)).Stores Finset.univ} {hm : Finset.univ = Finset.univ ∨ ∀ a, (Rect.unit (s := S16x512) ![0, 0] S16x512.size inb).stride a = 1}
    {Y Z : sProp 𝕄} {kont : PUnit → Prog (TpuEff nD τ sig (Elt F) Λ₀ .tc) α}
    (h : iprop(X ∗ Y ∗ Z ∗ (bigSep (Finset.Ico 1 16) fun o => chkP c o w) ∗ R) ⊢ WP c (kont ⟨⟩) Q) :
    iprop(X ∗ Y ∗ Z ∗ (∃ f : Chunk F .bf16, ((c : Thread nD τ).loc cc0_scratch3) ↦{fullShare} f) ∗ R)
      ⊢ WP c (.op (.store chkM (Rect.unit (s := S16x512) ![0, 0] S16x512.size inb) w Finset.univ hx hm) kont) Q := by
  have hz : (![0, 0] : Fin 2 → ℕ) = fun _ => 0 := by funext a; fin_cases a <;> rfl
  iintro ⟨HX, HY, HZ, ⟨%f, Hf⟩, HR⟩
  iapply (wp_store 𝒱₀ (c : Thread nD τ) none Set.univ (m := chkM) (r := Rect.unit (s := S16x512) ![0, 0] S16x512.size inb) (Mk := Finset.univ) (Finset.subset_univ _)) $$ Hf
  iintro Hf
  ihave Hf := (Entails.of_eq ((congrArg (fun g => (((c : Thread nD τ).loc cc0_scratch3) ↦{fullShare} g : sProp 𝕄))
    (Memref.write_access_unit_zero_univ (Elt F) cc0_scratch3 hz inb f w)).trans
    (Transfers.pointsTo_deal (Finset.Ico 1 16) ⟨1, by decide⟩ fullShare))) $$ Hf
  iapply h
  isplitl [HX]; · iexact HX
  isplitl [HY]; · iexact HY
  isplitl [HZ]; · iexact HZ
  isplitl [Hf]; · iexact Hf
  iexact HR

end Halves

/-! ## The exchange's steps at the peers and offsets the program computes -/

theorem WP_ret {α : Type} {c : Dev nD} {a : α} {P : sProp 𝕄} {Q : α → sProp 𝕄} (h : P ⊢ Q a) : P ⊢ WP c (.ret a) Q := by
  unfold WP; rw [wp_ret]; exact h.trans fupd_intro

theorem device {α : Type} {Q : α → sProp 𝕄} {c : Dev nD} {P : sProp 𝕄} {kont : Dev nD → Prog (TpuEff nD τ sig (Elt F) Λ₀ .tc) α}
    (h : P ⊢ WP c (kont c) Q) : P ⊢ WP c (.op .deviceId kont) Q := by
  unfold WP; rw [wp_deviceId]; exact h

section Steps
variable (T : Dev nD → Slots F .bf16) (A : Dev nD → Chunk F .bf16) (K : CI → ℕ)

theorem signal {α : Type} {Q : α → sProp 𝕄} {c : Dev nD} {k : ℕ} {R : sProp 𝕄} {dev : Dev nD → ℕ} {lt : dev c < nD} {n : ℤ} {sm : Sem sig}
    {kont : PUnit → Prog (TpuEff nD τ sig (Elt F) Λ₀ .tc) α}
    (h : iprop(know T A K ∗ SigSt c (k + 1) ∗ R) ⊢ WP c (kont ⟨⟩) Q)
    (hk : k < 16 := by decide) (h1 : 1 ≤ k := by decide) (hn : ∀ c, dev c = (pr c k).val := by decide +kernel) (hv : n = 1 := by rfl)
    (hs : sm = barS := by rfl) :
    iprop(know T A K ∗ SigSt c k ∗ R) ⊢ WP c (.op (.semSignal ((⟨dev c, lt⟩ : Dev nD), Proc.tc) sm n) kont) Q := by
  subst hv hs
  exact step_signal T A K c ⟨dev c, lt⟩ hk h1 (Fin.ext (hn c)) h

theorem scatter {α : Type} {Q : α → sProp 𝕄} {c : Dev nD} {k : ℕ} {R : sProp 𝕄} {dev : Dev nD → ℕ} {lt : dev c < nD}
    {b : BitVec 32} {off' : Fin 3 → ℕ}
    {inb : ∀ a, (k0_off1 c b) a + S1x16x512.size a ≤ S16x16x512.size a} {inb' : ∀ a, off' a + S1x16x512.size a ≤ S16x16x512.size a}
    {sS sR : DmaSem sig}
    {hsc : (slotOf rcvM off' inb' : Memref sig (Dev.tc (⟨dev c, lt⟩ : Dev nD) : Thread nD τ).2.kind .vmem S16x512 .bf16).view.ref.isScScratch = false}
    {hsrc : (slotOf stgM (k0_off1 c b) inb).view.WordExact} {hdst : (slotOf rcvM off' inb').view.WordExact}
    {hsem : DmaTarget.Typed .vmem (.dma sR) (.remote (Dev.tc (⟨dev c, lt⟩ : Dev nD) : Thread nD τ) (slotOf rcvM off' inb') (.dma sS) hsc)}
    {kont : PUnit → Prog (TpuEff nD τ sig (Elt F) Λ₀ .tc) α}
    (h : iprop(know T A K ∗ SndSt T c (k + 1) ∗ R) ⊢ WP c (kont ⟨⟩) Q)
    (hk : k < 16 := by decide) (h1 : 1 ≤ k := by decide) (hn : ∀ c, dev c = (pr c k).val := by decide +kernel)
    (hoff : ∀ c, k0_off1 c b = ![(pr c k).val, 0, 0] := by decide +kernel) (hoff' : off' = ![k, 0, 0] := by rfl)
    (hS : sS = ds 0 k := by rfl) (hR : sR = ds 1 k := by rfl) :
    iprop(know T A K ∗ SndSt T c k ∗ R)
      ⊢ WP c (.op (.enqueueDma (slotOf stgM (k0_off1 c b) inb) (.remote (Dev.tc (⟨dev c, lt⟩ : Dev nD) : Thread nD τ) (slotOf rcvM off' inb') (.dma sS) hsc) (.dma sR) hsrc hdst hsem) kont) Q :=
  step_scatter T A K c ⟨dev c, lt⟩ hk h1 (Fin.ext (hn c)) (hoff c) hoff' hS hR h

theorem gather {α : Type} {Q : α → sProp 𝕄} {c : Dev nD} {k : ℕ} {R : sProp 𝕄} {dev : Dev nD → ℕ} {lt : dev c < nD}
    {off' : Fin 3 → ℕ} {inb' : ∀ a, off' a + S1x16x512.size a ≤ S16x16x512.size a} {sS sR : DmaSem sig}
    {hsc : (slotOf gatM off' inb' : Memref sig (Dev.tc (⟨dev c, lt⟩ : Dev nD) : Thread nD τ).2.kind .vmem S16x512 .bf16).view.ref.isScScratch = false}
    {hsrc : chkM.view.WordExact} {hdst : (slotOf gatM off' inb').view.WordExact}
    {hsem : DmaTarget.Typed .vmem (.dma sR) (.remote (Dev.tc (⟨dev c, lt⟩ : Dev nD) : Thread nD τ) (slotOf gatM off' inb') (.dma sS) hsc)}
    {kont : PUnit → Prog (TpuEff nD τ sig (Elt F) Λ₀ .tc) α}
    (h : iprop(know T A K ∗ GatSt A c (k + 1) ∗ R) ⊢ WP c (kont ⟨⟩) Q)
    (hk : k < 16 := by decide) (h1 : 1 ≤ k := by decide) (hn : ∀ c, dev c = (pr c k).val := by decide +kernel)
    (hoff' : off' = ![k, 0, 0] := by rfl) (hS : sS = ds 2 k := by rfl) (hR : sR = ds 3 k := by rfl) :
    iprop(know T A K ∗ GatSt A c k ∗ R)
      ⊢ WP c (.op (.enqueueDma chkM (.remote (Dev.tc (⟨dev c, lt⟩ : Dev nD) : Thread nD τ) (slotOf gatM off' inb') (.dma sS) hsc) (.dma sR) hsrc hdst hsem) kont) Q :=
  step_gather T A K c ⟨dev c, lt⟩ hk h1 (Fin.ext (hn c)) hoff' hS hR h

theorem barrier {α : Type} {Q : α → sProp 𝕄} {c : Dev nD} {R : sProp 𝕄} {n : ℤ} {sm : Sem sig}
    {kont : PUnit → Prog (TpuEff nD τ sig (Elt F) Λ₀ .tc) α}
    (h : iprop(know T A K ∗ owesX c (oweCel 3 c 1 + oweCel 1 c 1) ∗ (atPos ER (barCell c) 1 ∅ 0 ∗ bigSep (Finset.Ico 1 16) (barPay c)) ∗ R) ⊢ WP c (kont ⟨⟩) Q)
    (hv : n = 15 := by rfl) (hs : sm = barS := by rfl) :
    iprop(know T A K ∗ owesX c (oweCel 3 c 1 + oweCel 1 c 1) ∗ (cred (tallyAt (barCell c) () 15) ∗ atPos ER (barCell c) 0 ∅ 0) ∗ R)
      ⊢ WP c (.op (.semWait sm n) kont) Q := by
  subst hv hs
  exact step_barrier T A K c h

/-- The wait for peer `k`'s copy into the scatter's landing slot `k`. -/
theorem wait_rcv {α : Type} {Q : α → sProp 𝕄} {c : Dev nD} {k : ℕ} {R : sProp 𝕄} {sm : DmaSem sig} {sp' : Space} {s' : Shape} {e' : EltTy}
    {src : Memref sig .tc sp' s' e'} {off : Fin 3 → ℕ} {inb : ∀ a, off a + S1x16x512.size a ≤ S16x16x512.size a}
    {hsrc : src.view.WordExact} {hdst : (slotOf rcvM off inb).view.WordExact} {kont : PUnit → Prog (TpuEff nD τ sig (Elt F) Λ₀ .tc) α}
    (h : iprop(know T A K ∗ owesX c (oweCel 3 c 1) ∗ WaitSt T A 1 c (k + 1) ∗ R) ⊢ WP c (kont ⟨⟩) Q)
    (hk : k < 16 := by decide) (h1 : 1 ≤ k := by decide) (hs : sm = ds 1 k := by rfl) :
    iprop(know T A K ∗ owesX c (oweCel 3 c 1) ∗ WaitSt T A 1 c k ∗ R) ⊢ WP c (.op (.waitDma2 sm src (slotOf rcvM off inb) hsrc hdst) kont) Q :=
  step_wait T A K 1 (by decide) c hk h1 _ (mayWait_rcv c hk) hs (credit_rcv off inb) h

/-- The wait for peer `k`'s copy into the gather's landing slot `k`. -/
theorem wait_gat {α : Type} {Q : α → sProp 𝕄} {c : Dev nD} {k : ℕ} {R : sProp 𝕄} {sm : DmaSem sig} {sp' : Space} {s' : Shape} {e' : EltTy}
    {src : Memref sig .tc sp' s' e'} {off : Fin 3 → ℕ} {inb : ∀ a, off a + S1x16x512.size a ≤ S16x16x512.size a}
    {hsrc : src.view.WordExact} {hdst : (slotOf gatM off inb).view.WordExact} {kont : PUnit → Prog (TpuEff nD τ sig (Elt F) Λ₀ .tc) α}
    (h : iprop(know T A K ∗ owesX c 0 ∗ WaitSt T A 3 c (k + 1) ∗ R) ⊢ WP c (kont ⟨⟩) Q)
    (hk : k < 16 := by decide) (h1 : 1 ≤ k := by decide) (hs : sm = ds 3 k := by rfl) :
    iprop(know T A K ∗ owesX c 0 ∗ WaitSt T A 3 c k ∗ R) ⊢ WP c (.op (.waitDma2 sm src (slotOf gatM off inb) hsrc hdst) kont) Q :=
  step_wait T A K 3 (by decide) c hk h1 _ (mayWait_none c _) hs (credit_gat off inb) h

/-- The wait for the scatter's copy number `k` to have left. -/
theorem wait_stg {α : Type} {Q : α → sProp 𝕄} {c : Dev nD} {k : ℕ} {R : sProp 𝕄} {sm : DmaSem sig} {sp' : Space} {s' : Shape} {e' : EltTy}
    {src : Memref sig .tc sp' s' e'} {off : Fin 3 → ℕ} {inb : ∀ a, off a + S1x16x512.size a ≤ S16x16x512.size a}
    {hsrc : src.view.WordExact} {hdst : (slotOf stgM off inb).view.WordExact} {kont : PUnit → Prog (TpuEff nD τ sig (Elt F) Λ₀ .tc) α}
    (h : iprop(know T A K ∗ owesX c 0 ∗ WaitSt T A 0 c (k + 1) ∗ R) ⊢ WP c (kont ⟨⟩) Q)
    (hk : k < 16 := by decide) (h1 : 1 ≤ k := by decide) (hs : sm = ds 0 k := by rfl) :
    iprop(know T A K ∗ owesX c 0 ∗ WaitSt T A 0 c k ∗ R) ⊢ WP c (.op (.waitDma2 sm src (slotOf stgM off inb) hsrc hdst) kont) Q :=
  step_wait T A K 0 (by decide) c hk h1 _ (mayWait_none c _) hs (credit_stg off inb) h

/-- The wait for the gather's copy number `k` to have left. -/
theorem wait_chk {α : Type} {Q : α → sProp 𝕄} {c : Dev nD} {k : ℕ} {X R : sProp 𝕄} {sm : DmaSem sig} {sp' : Space} {s' : Shape} {e' : EltTy}
    {src : Memref sig .tc sp' s' e'} {hsrc : src.view.WordExact} {hdst : chkM.view.WordExact} {kont : PUnit → Prog (TpuEff nD τ sig (Elt F) Λ₀ .tc) α}
    (h : iprop(know T A K ∗ owesX c 0 ∗ X ∗ WaitSt T A 2 c (k + 1) ∗ R) ⊢ WP c (kont ⟨⟩) Q)
    (hk : k < 16 := by decide) (h1 : 1 ≤ k := by decide) (hs : sm = ds 2 k := by rfl) :
    iprop(know T A K ∗ owesX c 0 ∗ X ∗ WaitSt T A 2 c k ∗ R) ⊢ WP c (.op (.waitDma2 sm src chkM hsrc hdst) kont) Q :=
  step_wait' T A K 2 (by decide) c hk h1 _ (mayWait_none c _) hs credit_chk h

theorem load_rcv {α : Type} {Q : α → sProp 𝕄} {c : Dev nD} {k : ℕ} {X R : sProp 𝕄} {off : Fin 3 → ℕ}
    {inb : ∀ a, off a + S1x16x512.size a ≤ S16x16x512.size a}
    {hl : rcvM.view.LoadsAt (Rect.unit (s := S16x16x512) off S1x16x512.size inb).toLoadRect}
    {kont : (S1x16x512.Idx → Elt F .bf16) → Prog (TpuEff nD τ sig (Elt F) Λ₀ .tc) α}
    (hk : k < 16)
    (h : iprop(know T A K ∗ X ∗ WaitSt T A 1 c (k + 1) ∗ R) ⊢ WP c (kont (slotVal k hk (landA T c))) Q)
    (h1 : 1 ≤ k := by decide) (hoff : off = ![k, 0, 0] := by rfl) :
    iprop(know T A K ∗ X ∗ WaitSt T A 1 c (k + 1) ∗ R)
      ⊢ WP c (.op (.load rcvM (Rect.unit (s := S16x16x512) off S1x16x512.size inb).toLoadRect hl) kont) Q :=
  step_load_rcv T A K c hk h1 hoff h

theorem load_gat {α : Type} {Q : α → sProp 𝕄} {c : Dev nD} {k : ℕ} {X R : sProp 𝕄} {off : Fin 3 → ℕ}
    {inb : ∀ a, off a + S1x16x512.size a ≤ S16x16x512.size a}
    {hl : gatM.view.LoadsAt (Rect.unit (s := S16x16x512) off S1x16x512.size inb).toLoadRect}
    {kont : (S1x16x512.Idx → Elt F .bf16) → Prog (TpuEff nD τ sig (Elt F) Λ₀ .tc) α}
    (hk : k < 16)
    (h : iprop(know T A K ∗ X ∗ WaitSt T A 3 c (k + 1) ∗ R) ⊢ WP c (kont (slotVal k hk (landB A c))) Q)
    (h1 : 1 ≤ k := by decide) (hoff : off = ![k, 0, 0] := by rfl) :
    iprop(know T A K ∗ X ∗ WaitSt T A 3 c (k + 1) ∗ R)
      ⊢ WP c (.op (.load gatM (Rect.unit (s := S16x16x512) off S1x16x512.size inb).toLoadRect hl) kont) Q :=
  step_load_gat T A K c hk h1 hoff h

/-! ## The result -/

/-- The place of `i` in its slot, as an index of a slot alone. -/
def unslot (i : S16x16x512.Idx) : S1x16x512.Idx :=
  ValueIdx.ix3 (⟨0, Nat.one_pos⟩ : Fin 1) (⟨(i 1).val, (i 1).isLt⟩ : Fin 16) (⟨(i 2).val, (i 2).isLt⟩ : Fin 512)

/-- A chunk as the contents of one slot. -/
def chunkVal {e : EltTy} (B : Chunk F e) : S1x16x512.Idx → Elt F e :=
  fun x => B (ValueIdx.ix2 (⟨(x 1).val, (x 1).isLt⟩ : Fin 16) (⟨(x 2).val, (x 2).isLt⟩ : Fin 512))

/-- The result of device `c`: its own slot from its own sum `rd`, the others from the chunks its peers finished. -/
def FIN (rd : Chunk F .f32) (A : Dev nD → Chunk F .bf16) (c : Dev nD) : Slots F .f32 := fun i =>
  if slotDev i = c then k0_pay51 rd (unslot i) else k0_pay52 (chunkVal (A (slotDev i))) (unslot i)

omit [FloatOps F] in
theorem slotVal_landB (c : Dev nD) {k : ℕ} (hk : k < 16) : slotVal k hk (landB A c) = chunkVal (A (pr c k)) := rfl

theorem unslot_slot {j : ℕ} (hj : j < 16) (x : S1x16x512.Idx) :
    unslot (ValueIdx.ix3 (⟨j, hj⟩ : Fin 16) (⟨(x 1).val, (x 1).isLt⟩ : Fin 16) (⟨(x 2).val, (x 2).isLt⟩ : Fin 512)) = x := by
  have h0 : (x 0).val = 0 := by have := (x 0).isLt; have e : S1x16x512.size 0 = 1 := rfl; omega
  funext a
  fin_cases a
  · exact Fin.ext h0.symm
  · rfl
  · rfl

theorem fin_own (rd : Chunk F .f32) (c : Dev nD) : k0_pay51 rd = slotVal (pr c 0).val (pr_val_lt c 0) (FIN rd A c) := by
  funext x
  unfold slotVal FIN
  have e : slotDev (ValueIdx.ix3 (⟨(pr c 0).val, pr_val_lt c 0⟩ : Fin 16) (⟨(x 1).val, (x 1).isLt⟩ : Fin 16) (⟨(x 2).val, (x 2).isLt⟩ : Fin 512)) = c := pr_zero c
  rw [if_pos e, unslot_slot]

theorem fin_peer (rd : Chunk F .f32) (c : Dev nD) {k : ℕ} (hk : k < 16) (h1 : 1 ≤ k) :
    k0_pay52 (slotVal k hk (landB A c)) = slotVal (pr c k).val (pr_val_lt c k) (FIN rd A c) := by
  funext x
  have e : ∀ y : S1x16x512.Idx, slotDev (ValueIdx.ix3 (⟨(pr c k).val, pr_val_lt c k⟩ : Fin 16) (⟨(y 1).val, (y 1).isLt⟩ : Fin 16) (⟨(y 2).val, (y 2).isLt⟩ : Fin 512)) = pr c k := fun _ => rfl
  have hne : pr c k ≠ c := fun h => by have := pr_inj c hk (by decide : 0 < 16) (h.trans (pr_zero c).symm); omega
  unfold slotVal FIN
  rw [e, if_neg hne, unslot_slot]
  rfl

variable (rd : Chunk F .f32)

theorem out_load {α : Type} {Q : α → sProp 𝕄} {c : Dev nD} {k : ℕ} {X Y Z R : sProp 𝕄}
    {r : LoadRect S16x16x512} {hl : outM.view.LoadsAt r} {kont : (r.shape.Idx → Elt F .f32) → Prog (TpuEff nD τ sig (Elt F) Λ₀ .tc) α}
    (h : ∀ v, iprop(X ∗ Y ∗ Z ∗ OutSt (FIN rd A c) c k ∗ R) ⊢ WP c (kont v) Q) :
    iprop(X ∗ Y ∗ Z ∗ OutSt (FIN rd A c) c k ∗ R) ⊢ WP c (.op (.load outM r hl) kont) Q := step_out_load c h

/-- The store of peer `k`'s chunk in the result. -/
theorem out_store {α : Type} {Q : α → sProp 𝕄} {c : Dev nD} {k : ℕ} {X Y Z R : sProp 𝕄} (hk : k < 16) {b : BitVec 32}
    {inb : ∀ a, (k0_off3 c b) a + S1x16x512.size a ≤ S16x16x512.size a} {w : S1x16x512.Idx → Elt F .f32}
    {hx : (outM.access (Rect.unit (s := S16x16x512) (k0_off3 c b) S1x16x512.size inb)).Stores Finset.univ} {hm : Finset.univ = Finset.univ ∨ ∀ a, (Rect.unit (s := S16x16x512) (k0_off3 c b) S1x16x512.size inb).stride a = 1}
    {kont : PUnit → Prog (TpuEff nD τ sig (Elt F) Λ₀ .tc) α}
    (h : iprop(X ∗ Y ∗ Z ∗ OutSt (FIN rd A c) c (k + 1) ∗ R) ⊢ WP c (kont ⟨⟩) Q)
    (hw : w = k0_pay52 (slotVal k hk (landB A c)) := by rfl)
    (h1 : 1 ≤ k := by decide) (hoff : ∀ c, k0_off3 c b = ![(pr c k).val, 0, 0] := by decide +kernel) :
    iprop(X ∗ Y ∗ Z ∗ OutSt (FIN rd A c) c k ∗ R)
      ⊢ WP c (.op (.store outM (Rect.unit (s := S16x16x512) (k0_off3 c b) S1x16x512.size inb) w Finset.univ hx hm) kont) Q :=
  step_out_store c hk (hoff c) (hw.trans (fin_peer A rd c hk h1)) h

/-- The store of a device's own chunk in the result. -/
theorem out_store_own {α : Type} {Q : α → sProp 𝕄} {c : Dev nD} {X Y Z R : sProp 𝕄}
    {inb : ∀ a, (k0_off2 c) a + S1x16x512.size a ≤ S16x16x512.size a}
    {hx : (outM.access (Rect.unit (s := S16x16x512) (k0_off2 c) S1x16x512.size inb)).Stores Finset.univ} {hm : Finset.univ = Finset.univ ∨ ∀ a, (Rect.unit (s := S16x16x512) (k0_off2 c) S1x16x512.size inb).stride a = 1}
    {kont : PUnit → Prog (TpuEff nD τ sig (Elt F) Λ₀ .tc) α}
    (h : iprop(X ∗ Y ∗ Z ∗ OutSt (FIN rd A c) c 1 ∗ R) ⊢ WP c (kont ⟨⟩) Q)
    (hoff : ∀ c, k0_off2 c = ![(pr c 0).val, 0, 0] := by decide +kernel) :
    iprop(X ∗ Y ∗ Z ∗ OutSt (FIN rd A c) c 0 ∗ R)
      ⊢ WP c (.op (.store outM (Rect.unit (s := S16x16x512) (k0_off2 c) S1x16x512.size inb) (k0_pay51 rd) Finset.univ hx hm) kont) Q :=
  step_out_store c (by decide) (hoff c) (fin_own A rd c) h

/-- With every slot stored the result's buffer holds the result. -/
theorem out_full (c : Dev nD) : OutSt (FIN rd A c) c 16 ⊢ (((c : Thread nD τ).loc cc0_stg5_0) ↦{fullShare} FIN rd A c : sProp 𝕄) := by
  unfold OutSt
  iintro ⟨%f, %hf, Hf⟩
  have e : f = FIN rd A c := funext fun i => by
    obtain ⟨o, ho⟩ := pr_surj c (slotDev i)
    exact hf i ⟨o.val, o.isLt, by rw [ho]; rfl⟩
  subst e
  iexact Hf

end Steps

end Cert.KernelIdeal.Xch
-- ==== Proof.KernelIdeal.Enter.lean ====
/-
  From one stretch of the exchange to the next: how what a device holds is regrouped, and how the buffers of sixteen
  slots are split into slots and joined again.
-/
module

public import proofs.«01_k».proof.Proof.KernelIdeal.Ops

@[expose] public section

noncomputable section

namespace Cert.KernelIdeal.Xch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem swap23 (P₁ P₂ P₃ P₄ : sProp 𝕄) : iprop(P₁ ∗ P₂ ∗ P₃ ∗ P₄) ⊢ iprop(P₁ ∗ P₃ ∗ P₂ ∗ P₄) := by
  iintro ⟨H1, H2, H3, H4⟩
  isplitl [H1]; · iexact H1
  isplitl [H3]; · iexact H3
  isplitl [H2]; · iexact H2
  iexact H4
omit [FloatOps F] in
theorem swap3456 (P₁ P₂ P₃ P₄ P₅ P₆ P₇ : sProp 𝕄) : iprop(P₁ ∗ P₂ ∗ P₃ ∗ P₄ ∗ P₅ ∗ P₆ ∗ P₇) ⊢ iprop(P₁ ∗ P₂ ∗ P₅ ∗ P₆ ∗ P₃ ∗ P₄ ∗ P₇) := by
  iintro ⟨H1, H2, H3, H4, H5, H6, H7⟩
  isplitl [H1]; · iexact H1
  isplitl [H2]; · iexact H2
  isplitl [H5]; · iexact H5
  isplitl [H6]; · iexact H6
  isplitl [H3]; · iexact H3
  isplitl [H4]; · iexact H4
  iexact H7

/-! ## Slots of a buffer -/

theorem univ_slots {j : ℕ → ℕ} (hj : ∀ i : S16x16x512.Idx, ∃ o, o < 16 ∧ j o = (i 0).val) :
    (Finset.Ico 0 16).biUnion (fun o => slotSet (j o)) = Finset.univ := by
  ext i
  simp only [Finset.mem_biUnion, Finset.mem_Ico, Finset.mem_univ, iff_true]
  obtain ⟨o, ho, e⟩ := hj i
  exact ⟨o, ⟨Nat.zero_le _, ho⟩, mem_slotSet.mpr e.symm⟩

theorem peers_cover (c : Dev nD) (i : S16x16x512.Idx) : ∃ o, o < 16 ∧ (pr c o).val = (i 0).val := by
  obtain ⟨o, ho⟩ := pr_surj c (slotDev i)
  exact ⟨o.val, o.isLt, by rw [ho]; rfl⟩
theorem slots_cover (i : S16x16x512.Idx) : ∃ o, o < 16 ∧ o = (i 0).val := ⟨_, (i 0).isLt, rfl⟩

theorem peers_disjoint (c : Dev nD) : ∀ o ∈ Finset.Ico 0 16, ∀ o' ∈ Finset.Ico 0 16, o ≠ o' → Disjoint (slotSet (pr c o).val) (slotSet (pr c o').val) :=
  fun o h o' h' hne => slotSet_disjoint fun e => hne (pr_inj c (Finset.mem_Ico.mp h).2 (Finset.mem_Ico.mp h').2 (Fin.ext e))
theorem slots_disjoint : ∀ o ∈ Finset.Ico 0 16, ∀ o' ∈ Finset.Ico 0 16, o ≠ o' → Disjoint (slotSet o) (slotSet o') :=
  fun _ _ _ _ hne => slotSet_disjoint hne

omit [FloatOps F] in
theorem stg_split (c : Dev nD) (f : Slots F .bf16) :
    (((c : Thread nD τ).loc cc0_scratch1) ↦{fullShare} f : sProp 𝕄) = iprop(stgP c c.val f ∗ bigSep (Finset.Ico 1 16) fun o => stgP c (pr c o).val f) := by
  have e := pointsTo_biUnion (ℓ := ((c : Thread nD τ).loc cc0_scratch1)) (q := fullShare) (f := f) (Ix := Unit) (Val := Elt F) (Name := Nat) (U := UU) (Lvl := Nat) (Finset.Ico 0 16) (fun o => slotSet (pr c o).val) (peers_disjoint c)
  rw [univ_slots (peers_cover c)] at e
  refine e.trans ?_
  rw [bigSep_Ico_succ_bot (by decide), pr_zero]
  rfl
omit [FloatOps F] in
theorem rcv_split (c : Dev nD) (f : Slots F .bf16) :
    (((c : Thread nD τ).loc cc0_scratch2) ↦{fullShare} f : sProp 𝕄) = iprop(rcvP c 0 f ∗ bigSep (Finset.Ico 1 16) fun o => rcvP c o f) := by
  have e := pointsTo_biUnion (ℓ := ((c : Thread nD τ).loc cc0_scratch2)) (q := fullShare) (f := f) (Ix := Unit) (Val := Elt F) (Name := Nat) (U := UU) (Lvl := Nat) (Finset.Ico 0 16) slotSet slots_disjoint
  rw [univ_slots slots_cover] at e
  refine e.trans ?_
  rw [bigSep_Ico_succ_bot (by decide)]
  rfl
omit [FloatOps F] in
theorem gat_split (c : Dev nD) (f : Slots F .bf16) :
    (((c : Thread nD τ).loc cc0_scratch4) ↦{fullShare} f : sProp 𝕄) = iprop(gatP c 0 f ∗ bigSep (Finset.Ico 1 16) fun o => gatP c o f) := by
  have e := pointsTo_biUnion (ℓ := ((c : Thread nD τ).loc cc0_scratch4)) (q := fullShare) (f := f) (Ix := Unit) (Val := Elt F) (Name := Nat) (U := UU) (Lvl := Nat) (Finset.Ico 0 16) slotSet slots_disjoint
  rw [univ_slots slots_cover] at e
  refine e.trans ?_
  rw [bigSep_Ico_succ_bot (by decide)]
  rfl

omit [FloatOps F] in
theorem rcv_join (c : Dev nD) (g : Slots F .bf16) :
    iprop((∃ f, rcvP c 0 f) ∗ bigSep (Finset.Ico 1 16) fun o => rcvP c o g) ⊢ (iprop(∃ f, ((c : Thread nD τ).loc cc0_scratch2) ↦{fullShare} f) : sProp 𝕄) := by
  iintro ⟨⟨%f, H0⟩, H⟩
  ihave H := (pointsTo_biUnion_join (ℓ := ((c : Thread nD τ).loc cc0_scratch2)) (q := fullShare) (Ix := Unit) (Val := Elt F) (Name := Nat) (U := UU) (Lvl := Nat) (Finset.Ico 0 16) slotSet (fun o => if o = 0 then f else g) f slots_disjoint) $$ [H0 H]
  · iapply (Entails.of_eq (bigSep_Ico_succ_bot (a := 0) (b := 16) (by decide) _).symm)
    isplitl [H0]; · iapply (Entails.of_eq (by rw [if_pos rfl]; rfl)) $$ H0
    iapply (Entails.of_eq (bigSep_congr fun o ho => by rw [if_neg (by have := (Finset.mem_Ico.mp ho).1; omega)]; rfl)) $$ H
  icases H with ⟨%h, -, H⟩
  iexists h
  rw [univ_slots slots_cover]
  iexact H
omit [FloatOps F] in
theorem gat_join (c : Dev nD) (g : Slots F .bf16) :
    iprop((∃ f, gatP c 0 f) ∗ bigSep (Finset.Ico 1 16) fun o => gatP c o g) ⊢ (iprop(∃ f, ((c : Thread nD τ).loc cc0_scratch4) ↦{fullShare} f) : sProp 𝕄) := by
  iintro ⟨⟨%f, H0⟩, H⟩
  ihave H := (pointsTo_biUnion_join (ℓ := ((c : Thread nD τ).loc cc0_scratch4)) (q := fullShare) (Ix := Unit) (Val := Elt F) (Name := Nat) (U := UU) (Lvl := Nat) (Finset.Ico 0 16) slotSet (fun o => if o = 0 then f else g) f slots_disjoint) $$ [H0 H]
  · iapply (Entails.of_eq (bigSep_Ico_succ_bot (a := 0) (b := 16) (by decide) _).symm)
    isplitl [H0]; · iapply (Entails.of_eq (by rw [if_pos rfl]; rfl)) $$ H0
    iapply (Entails.of_eq (bigSep_congr fun o ho => by rw [if_neg (by have := (Finset.mem_Ico.mp ho).1; omega)]; rfl)) $$ H
  icases H with ⟨%h, -, H⟩
  iexists h
  rw [univ_slots slots_cover]
  iexact H

/-! ## What a device holds -/

/-- What the wait on the barrier takes. -/
def BarSt (c : Dev nD) : sProp 𝕄 := iprop(cred (tallyAt (barCell c) () 15) ∗ atPos ER (barCell c) 0 ∅ 0)
/-- The tokens of the scatter's copies. -/
def ScTok (c : Dev nD) : sProp 𝕄 := bigSep (Finset.Ico 1 16) fun o => iprop(dutyTok ER (cel 0 c o) 0 0 ∗ dutyTok ER (cel 1 (pr c o) o) 0 0)
/-- The tokens of the gather's copies. -/
def GtTok (c : Dev nD) : sProp 𝕄 := bigSep (Finset.Ico 1 16) fun o => iprop(dutyTok ER (cel 2 c o) 0 0 ∗ dutyTok ER (cel 3 (pr c o) o) 0 0)
/-- The staged partial sums and the tokens of the scatter's copies. -/
def ScSt (c : Dev nD) (t : Slots F .bf16) : sProp 𝕄 := iprop(LoT c t 16 ∗ ScTok c)
/-- The peers' landing slots and the tokens of the gather's copies. -/
def GtSt (c : Dev nD) : sProp 𝕄 := bigSep (Finset.Ico 1 16) fun o => iprop((∃ f, gatP (F := F) (pr c o) o f) ∗ dutyTok ER (cel 2 c o) 0 0 ∗ dutyTok ER (cel 3 (pr c o) o) 0 0)
/-- The credits for the copies that land with device `c`, or that leave it. -/
def Crd (a : ℕ) (c : Dev nD) : sProp 𝕄 := bigSep (Finset.Ico 1 16) fun o => cred (tallyAt (cel a c o) () N)
/-- Device `c` as the one to wait on the semaphores of an array. -/
def Pos (a : ℕ) (c : Dev nD) : sProp 𝕄 := bigSep (Finset.Ico 1 16) fun o => atPos ER (cel a c o) 0 ∅ 0

section
variable (T : Dev nD → Slots F .bf16) (A : Dev nD → Chunk F .bf16) (K : CI → ℕ)

theorem enter_wait (a : ℕ) (c : Dev nD) : iprop(Crd (F := F) a c ∗ Pos a c) ⊢ WaitSt T A a c 1 := by
  unfold Crd Pos WaitSt
  rw [Finset.Ico_self, bigSep_empty, ← bigSep_sep']
  iintro H
  isplitl [H]; · iexact H
  iempintro

theorem exit_wait (a : ℕ) (c : Dev nD) :
    WaitSt T A a c 16 ⊢ iprop((bigSep (Finset.Ico 1 16) fun o => pay T A a c o) ∗ bigSep (Finset.Ico 1 16) fun o => atPos ER (cel a c o) 1 ∅ 0) := by
  unfold WaitSt
  rw [Finset.Ico_self, bigSep_empty, ← bigSep_sep']
  iintro ⟨-, H⟩
  iexact H

theorem exit_signal (c : Dev nD) {R : sProp 𝕄} : iprop(know T A K ∗ SigSt c 16 ∗ BarSt c ∗ R)
    ⊢ iprop(know T A K ∗ owesX c (oweCel 3 c 1 + oweCel 1 c 1) ∗ (cred (tallyAt (barCell c) () 15) ∗ atPos ER (barCell c) 0 ∅ 0) ∗ R) := by
  unfold SigSt BarSt
  rw [oweBar_end, add_zero]
  iintro ⟨Hk, ⟨HO, -⟩, HB, HR⟩
  isplitl [Hk]; · iexact Hk
  isplitl [HO]; · iexact HO
  isplitl [HB]; · iexact HB
  iexact HR

theorem enter_scatter (c : Dev nD) {R : sProp 𝕄} :
    iprop(know T A K ∗ owesX c (oweCel 3 c 1 + oweCel 1 c 1) ∗ (atPos ER (barCell c) 1 ∅ 0 ∗ bigSep (Finset.Ico 1 16) (barPay c)) ∗ ScSt c (T c) ∗ GtTok c ∗ R)
    ⊢ iprop(know T A K ∗ SndSt T c 1 ∗ (atPos ER (barCell c) 1 ∅ 0 ∗ stgP c c.val (T c)) ∗ GtSt c ∗ R) := by
  have e0 : bigSep (Finset.Ico 1 16) (barPay (F := F) c) = iprop((bigSep (Finset.Ico 1 16) fun o => iprop(∃ f, rcvP (pr c o) o f)) ∗ bigSep (Finset.Ico 1 16) fun o => iprop(∃ f, gatP (pr c o) o f)) := by
    unfold barPay; exact bigSep_sep' _ _ _
  unfold SndSt ScSt ScTok GtTok GtSt
  rw [Finset.Ico_self, bigSep_empty, e0]
  simp only [bigSep_sep']
  iintro ⟨Hk, HO, ⟨Hat, Hrc, Hga⟩, ⟨HT, Ht0, Ht1⟩, ⟨Ht2, Ht3⟩, HR⟩
  ihave HT := (loT_full (c := c) (T := T c)) $$ HT
  ihave HT := (Entails.of_eq (stg_split c (T c))) $$ HT
  icases HT with ⟨Hown, HT⟩
  isplitl [Hk]; · iexact Hk
  isplitl [HO HT Hrc Ht0 Ht1]
  · isplitl [HO]; · iexact HO
    isplitl [HT Hrc Ht0 Ht1]
    · isplitl [HT Hrc]
      · isplitl [HT]; · iexact HT
        iexact Hrc
      isplitl [Ht0]; · iexact Ht0
      iexact Ht1
    iempintro
  isplitl [Hat Hown]
  · isplitl [Hat]; · iexact Hat
    iexact Hown
  isplitl [Hga Ht2 Ht3]
  · isplitl [Hga]; · iexact Hga
    isplitl [Ht2]; · iexact Ht2
    iexact Ht3
  iexact HR

/-- After the last scatter copy: the waits for the copies of the peers are next. -/
theorem exit_scatter (c : Dev nD) : SndSt T c 16 ⊢ iprop(owesX c (oweCel 3 c 1) ∗ Crd 0 c) := by
  unfold SndSt Crd
  rw [oweCel_end, add_zero]
  iintro ⟨HO, -, H⟩
  isplitl [HO]; · iexact HO
  iexact H

theorem enter_gather (c : Dev nD) {W R : sProp 𝕄} :
    iprop(know T A K ∗ owesX c (oweCel 3 c 1) ∗ W ∗ (bigSep (Finset.Ico 1 16) fun o => chkP c o (A c)) ∗ GtSt c ∗ R)
    ⊢ iprop(know T A K ∗ GatSt A c 1 ∗ W ∗ R) := by
  unfold GatSt GtSt
  rw [Finset.Ico_self, bigSep_empty]
  simp only [bigSep_sep']
  iintro ⟨Hk, HO, HW, Hc, ⟨Hga, Ht2, Ht3⟩, HR⟩
  isplitl [Hk]; · iexact Hk
  isplitl [HO Hc Hga Ht2 Ht3]
  · isplitl [HO]; · iexact HO
    isplitl [Hc Hga Ht2 Ht3]
    · isplitl [Hc Hga]
      · isplitl [Hc]; · iexact Hc
        iexact Hga
      isplitl [Ht2]; · iexact Ht2
      iexact Ht3
    iempintro
  isplitl [HW]; · iexact HW
  iexact HR

/-- After the last gather copy the device owes nothing more. -/
theorem exit_gather (c : Dev nD) : GatSt A c 16 ⊢ iprop(owesX c 0 ∗ Crd 2 c) := by
  unfold GatSt Crd
  rw [oweCel_end]
  iintro ⟨HO, -, H⟩
  isplitl [HO]; · iexact HO
  iexact H

end

end Cert.KernelIdeal.Xch
-- ==== Proof.KernelIdeal.Exchange.lean ====
/-
  The parts of the body that exchange: barrier raises, scatter, sums, gather, result, last waits.
-/
module

public import proofs.«01_k».proof.Proof.KernelIdeal.Enter

@[expose] public section

noncomputable section

namespace Cert.KernelIdeal.Xch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (T : Dev nD → Slots F .bf16) (A : Dev nD → Chunk F .bf16) (K : CI → ℕ)

theorem part13 (c : Dev nD) {P : Slots F .f32} (w1 : BitVec 32) (v437 : FVec F S128x512 .f32) (v438 : FVec F S8x16x512 .f32) {R : sProp 𝕄} {Q : _ → sProp 𝕄}
    (hP : ∀ (x : S8x16x512.Idx) (hx : 8 + (x 0).val < 16), k0_pay40 v438 x = P (ValueIdx.ix3 (⟨8 + (x 0).val, hx⟩ : Fin 16) (⟨(x 1).val, (x 1).isLt⟩ : Fin 16) (⟨(x 2).val, (x 2).isLt⟩ : Fin 512)))
    (hT : ∀ (x : S8x16x512.Idx) (hx : 8 + (x 0).val < 16), k0_pay41 v437 x = T c (ValueIdx.ix3 (⟨8 + (x 0).val, hx⟩ : Fin 16) (⟨(x 1).val, (x 1).isLt⟩ : Fin 16) (⟨(x 2).val, (x 2).isLt⟩ : Fin 512)))
    (h : ∀ b, iprop(know T A K ∗ SigSt c 6 ∗ (LoP c P 16 ∗ LoT c (T c) 16) ∗ R) ⊢ Q ⟨(SemArray.scalar (sig.barrier 0 rfl)), b⟩) :
    iprop(know T A K ∗ (LoP c P 8 ∗ LoT c (T c) 8) ∗ SigSt c 1 ∗ R) ⊢ WP c (bufs (k0_part13 (F := F)) c w1 v437 v438) Q := by
  unfold bufs
  rw [k0_part13_eq_skeleton]; unfold k0_part13_skel
  simp only [semSignalWord, semWaitWord, Prog.lift, Prog.bind_op, Prog.bind_ret, Prog.pure_eq_ret]
  refine load_half_part c fun _ => ?_
  refine store_half_part c (by decide) rfl hP ?_
  refine load_half_stg c fun _ => ?_
  refine store_half_stg c (by decide) rfl hT ?_
  refine (swap23 _ _ _ _).trans ?_
  refine signal T A K ?_
  refine signal T A K ?_
  refine signal T A K ?_
  refine signal T A K ?_
  refine signal T A K ?_
  exact WP_ret (h _)

theorem part14 (c : Dev nD) (w1 : BitVec 32) (w2 : BitVec 32) {R : sProp 𝕄} {Q : _ → sProp 𝕄}
    (h : ∀ a, iprop(know T A K ∗ SigSt c 14 ∗ R) ⊢ Q a) :
    iprop(know T A K ∗ SigSt c 6 ∗ R) ⊢ WP c (bufs (k0_part14 (F := F)) c w1 (SemArray.scalar (sig.barrier 0 rfl)) w2) Q := by
  unfold bufs
  rw [k0_part14_eq_skeleton]; unfold k0_part14_skel
  simp only [semSignalWord, semWaitWord, Prog.lift, Prog.bind_op, Prog.bind_ret, Prog.pure_eq_ret]
  refine signal T A K ?_
  refine signal T A K ?_
  refine signal T A K ?_
  refine signal T A K ?_
  refine signal T A K ?_
  refine signal T A K ?_
  refine signal T A K ?_
  refine signal T A K ?_
  exact WP_ret (h _)

theorem part15 (c : Dev nD) (w1 w2 : BitVec 32) {R : sProp 𝕄} {Q : _ → sProp 𝕄}
    (h : ∀ a b, iprop(know T A K ∗ SndSt T c 2 ∗ (atPos ER (barCell c) 1 ∅ 0 ∗ stgP c c.val (T c)) ∗ GtSt c ∗ R) ⊢ Q ⟨a, b⟩) :
    iprop(know T A K ∗ SigSt c 14 ∗ BarSt c ∗ ScSt c (T c) ∗ GtTok c ∗ R) ⊢ WP c (bufs (k0_part15 (F := F)) c w1 (SemArray.scalar (sig.barrier 0 rfl)) w2) Q := by
  unfold bufs
  rw [k0_part15_eq_skeleton]; unfold k0_part15_skel
  simp only [semSignalWord, semWaitWord, Prog.lift, Prog.bind_op, Prog.bind_ret, Prog.pure_eq_ret]
  refine signal T A K ?_
  refine signal T A K ?_
  refine (exit_signal T A K c).trans ?_
  refine barrier T A K ?_
  refine (enter_scatter T A K c).trans ?_
  refine scatter T A K ?_
  exact WP_ret (h _ _)

theorem part16 (c : Dev nD) (w1 : BitVec 32) {R : sProp 𝕄} {Q : _ → sProp 𝕄}
    (h : ∀ a b d, iprop(know T A K ∗ SndSt T c 5 ∗ R) ⊢ Q ⟨a, b, d⟩) :
    iprop(know T A K ∗ SndSt T c 2 ∗ R) ⊢ WP c (bufs (k0_part16 (F := F)) c w1) Q := by
  unfold bufs
  rw [k0_part16_eq_skeleton]; unfold k0_part16_skel
  simp only [semSignalWord, semWaitWord, Prog.lift, Prog.bind_op, Prog.bind_ret, Prog.pure_eq_ret]
  refine scatter T A K ?_
  refine scatter T A K ?_
  refine scatter T A K ?_
  exact WP_ret (h _ _ _)

theorem part17 (c : Dev nD) (w1 : BitVec 32) {R : sProp 𝕄} {Q : _ → sProp 𝕄}
    (h : ∀ a b d e f, iprop(know T A K ∗ SndSt T c 8 ∗ R) ⊢ Q ⟨a, b, d, e, f⟩) :
    iprop(know T A K ∗ SndSt T c 5 ∗ R) ⊢ WP c (bufs (k0_part17 (F := F)) c w1) Q := by
  unfold bufs
  rw [k0_part17_eq_skeleton]; unfold k0_part17_skel
  simp only [semSignalWord, semWaitWord, Prog.lift, Prog.bind_op, Prog.bind_ret, Prog.pure_eq_ret]
  refine scatter T A K ?_
  refine scatter T A K ?_
  refine scatter T A K ?_
  exact WP_ret (h _ _ _ _ _)

theorem part18 (c : Dev nD) (w1 : BitVec 32) (w2 : BitVec 32) (w3 : BitVec 32) {R : sProp 𝕄} {Q : _ → sProp 𝕄}
    (h : ∀ a b d, iprop(know T A K ∗ SndSt T c 11 ∗ R) ⊢ Q ⟨a, b, d⟩) :
    iprop(know T A K ∗ SndSt T c 8 ∗ R) ⊢ WP c (bufs (k0_part18 (F := F)) c w1 w2 w3) Q := by
  unfold bufs
  rw [k0_part18_eq_skeleton]; unfold k0_part18_skel
  simp only [semSignalWord, semWaitWord, Prog.lift, Prog.bind_op, Prog.bind_ret, Prog.pure_eq_ret]
  refine scatter T A K ?_
  refine scatter T A K ?_
  refine scatter T A K ?_
  exact WP_ret (h _ _ _)

theorem part19 (c : Dev nD) (w1 : BitVec 32) (w2 : BitVec 32) {R : sProp 𝕄} {Q : _ → sProp 𝕄}
    (h : ∀ a b, iprop(know T A K ∗ SndSt T c 13 ∗ R) ⊢ Q ⟨a, b⟩) :
    iprop(know T A K ∗ SndSt T c 11 ∗ R) ⊢ WP c (bufs (k0_part19 (F := F)) c w1 w2) Q := by
  unfold bufs
  rw [k0_part19_eq_skeleton]; unfold k0_part19_skel
  simp only [semSignalWord, semWaitWord, Prog.lift, Prog.bind_op, Prog.bind_ret, Prog.pure_eq_ret]
  refine scatter T A K ?_
  refine scatter T A K ?_
  exact WP_ret (h _ _)

theorem part20 (c : Dev nD) {P : Slots F .f32} (w1 : BitVec 32) (w2 : BitVec 32) {R : sProp 𝕄} {Q : _ → sProp 𝕄}
    (h : ∀ a b, iprop(know T A K ∗ SndSt T c 16 ∗ partP c P ∗ R) ⊢ Q ⟨a, b, k0_pay42 (slotVal c.val c.isLt P)⟩) :
    iprop(know T A K ∗ SndSt T c 13 ∗ partP c P ∗ R) ⊢ WP c (bufs (k0_part20 (F := F)) c w1 w2) Q := by
  unfold bufs
  rw [k0_part20_eq_skeleton]; unfold k0_part20_skel
  simp only [semSignalWord, semWaitWord, Prog.lift, Prog.bind_op, Prog.bind_ret, Prog.pure_eq_ret]
  refine scatter T A K ?_
  refine scatter T A K ?_
  refine scatter T A K ?_
  refine load_part c (k0_off2_eq c) ?_
  exact WP_ret (h _ _)

theorem part21 (c : Dev nD) (w1 : BitVec 32) (w2 : BitVec 32) (v : FVec F S16x512 .f32) {R : sProp 𝕄} {Q : _ → sProp 𝕄}
    (h : iprop(know T A K ∗ owesX c (oweCel 3 c 1) ∗ WaitSt T A 1 c 3 ∗ R) ⊢ Q (k0_pay43 v (slotVal 1 (by decide) (landA T c)) (slotVal 2 (by decide) (landA T c)))) :
    iprop(know T A K ∗ owesX c (oweCel 3 c 1) ∗ WaitSt T A 1 c 1 ∗ R) ⊢ WP c (bufs (k0_part21 (F := F)) c w1 w2 v) Q := by
  unfold bufs
  rw [k0_part21_eq_skeleton]; unfold k0_part21_skel
  simp only [semSignalWord, semWaitWord, Prog.lift, Prog.bind_op, Prog.bind_ret, Prog.pure_eq_ret]
  refine wait_rcv T A K ?_
  refine load_rcv T A K (by decide) ?_
  refine wait_rcv T A K ?_
  refine load_rcv T A K (by decide) ?_
  exact WP_ret (h)

theorem part22 (c : Dev nD) (w1 : BitVec 32) (w2 : BitVec 32) (v : FVec F S16x512 .f32) {R : sProp 𝕄} {Q : _ → sProp 𝕄}
    (h : iprop(know T A K ∗ owesX c (oweCel 3 c 1) ∗ WaitSt T A 1 c 6 ∗ R) ⊢ Q (k0_pay44 v (slotVal 3 (by decide) (landA T c)) (slotVal 4 (by decide) (landA T c)) (slotVal 5 (by decide) (landA T c)))) :
    iprop(know T A K ∗ owesX c (oweCel 3 c 1) ∗ WaitSt T A 1 c 3 ∗ R) ⊢ WP c (bufs (k0_part22 (F := F)) c w1 w2 v) Q := by
  unfold bufs
  rw [k0_part22_eq_skeleton]; unfold k0_part22_skel
  simp only [semSignalWord, semWaitWord, Prog.lift, Prog.bind_op, Prog.bind_ret, Prog.pure_eq_ret]
  refine wait_rcv T A K ?_
  refine load_rcv T A K (by decide) ?_
  refine wait_rcv T A K ?_
  refine load_rcv T A K (by decide) ?_
  refine wait_rcv T A K ?_
  refine load_rcv T A K (by decide) ?_
  exact WP_ret (h)

theorem part23 (c : Dev nD) (w1 : BitVec 32) (w2 : BitVec 32) (w3 : BitVec 32) (v : FVec F S16x512 .f32) {R : sProp 𝕄} {Q : _ → sProp 𝕄}
    (h : iprop(know T A K ∗ owesX c (oweCel 3 c 1) ∗ WaitSt T A 1 c 8 ∗ R) ⊢ Q (k0_pay45 v (slotVal 6 (by decide) (landA T c)) (slotVal 7 (by decide) (landA T c)))) :
    iprop(know T A K ∗ owesX c (oweCel 3 c 1) ∗ WaitSt T A 1 c 6 ∗ R) ⊢ WP c (bufs (k0_part23 (F := F)) c w1 w2 w3 v) Q := by
  unfold bufs
  rw [k0_part23_eq_skeleton]; unfold k0_part23_skel
  simp only [semSignalWord, semWaitWord, Prog.lift, Prog.bind_op, Prog.bind_ret, Prog.pure_eq_ret]
  refine wait_rcv T A K ?_
  refine load_rcv T A K (by decide) ?_
  refine wait_rcv T A K ?_
  refine load_rcv T A K (by decide) ?_
  exact WP_ret (h)

theorem part24 (c : Dev nD) (w1 : BitVec 32) (w2 : BitVec 32) (v : FVec F S16x512 .f32) {R : sProp 𝕄} {Q : _ → sProp 𝕄}
    (h : iprop(know T A K ∗ owesX c (oweCel 3 c 1) ∗ WaitSt T A 1 c 11 ∗ R) ⊢ Q ⟨k0_pay46 v (slotVal 8 (by decide) (landA T c)) (slotVal 9 (by decide) (landA T c)), (slotVal 10 (by decide) (landA T c))⟩) :
    iprop(know T A K ∗ owesX c (oweCel 3 c 1) ∗ WaitSt T A 1 c 8 ∗ R) ⊢ WP c (bufs (k0_part24 (F := F)) c w1 w2 v) Q := by
  unfold bufs
  rw [k0_part24_eq_skeleton]; unfold k0_part24_skel
  simp only [semSignalWord, semWaitWord, Prog.lift, Prog.bind_op, Prog.bind_ret, Prog.pure_eq_ret]
  refine wait_rcv T A K ?_
  refine load_rcv T A K (by decide) ?_
  refine wait_rcv T A K ?_
  refine load_rcv T A K (by decide) ?_
  refine wait_rcv T A K ?_
  refine load_rcv T A K (by decide) ?_
  exact WP_ret (h)

theorem part25 (c : Dev nD) (w1 : BitVec 32) (w2 : BitVec 32) (w3 : BitVec 32) (v : FVec F S16x512 .f32) (v' : Vec F S1x16x512 .bf16) {R : sProp 𝕄} {Q : _ → sProp 𝕄}
    (h : iprop(know T A K ∗ owesX c (oweCel 3 c 1) ∗ WaitSt T A 1 c 13 ∗ R) ⊢ Q (k0_pay47 v v' (slotVal 11 (by decide) (landA T c)) (slotVal 12 (by decide) (landA T c)))) :
    iprop(know T A K ∗ owesX c (oweCel 3 c 1) ∗ WaitSt T A 1 c 11 ∗ R) ⊢ WP c (bufs (k0_part25 (F := F)) c w1 w2 w3 v v') Q := by
  unfold bufs
  rw [k0_part25_eq_skeleton]; unfold k0_part25_skel
  simp only [semSignalWord, semWaitWord, Prog.lift, Prog.bind_op, Prog.bind_ret, Prog.pure_eq_ret]
  refine wait_rcv T A K ?_
  refine load_rcv T A K (by decide) ?_
  refine wait_rcv T A K ?_
  refine load_rcv T A K (by decide) ?_
  exact WP_ret (h)

theorem part26 (c : Dev nD) (w1 : BitVec 32) (w2 : BitVec 32) (v : FVec F S16x512 .f32) {R : sProp 𝕄} {Q : _ → sProp 𝕄}
    (h : iprop(know T A K ∗ owesX c (oweCel 3 c 1) ∗ WaitSt T A 1 c 15 ∗ R) ⊢ Q (k0_pay48 v (slotVal 13 (by decide) (landA T c)) (slotVal 14 (by decide) (landA T c)))) :
    iprop(know T A K ∗ owesX c (oweCel 3 c 1) ∗ WaitSt T A 1 c 13 ∗ R) ⊢ WP c (bufs (k0_part26 (F := F)) c w1 w2 v) Q := by
  unfold bufs
  rw [k0_part26_eq_skeleton]; unfold k0_part26_skel
  simp only [semSignalWord, semWaitWord, Prog.lift, Prog.bind_op, Prog.bind_ret, Prog.pure_eq_ret]
  refine wait_rcv T A K ?_
  refine load_rcv T A K (by decide) ?_
  refine wait_rcv T A K ?_
  refine load_rcv T A K (by decide) ?_
  exact WP_ret (h)

theorem part27 (c : Dev nD) (w1 : BitVec 32) (v : FVec F S16x512 .f32) {R : sProp 𝕄} {Q : _ → sProp 𝕄}
    (hA : k0_pay50 v (slotVal 15 (by decide) (landA T c)) = A c)
    (h : ∀ a b d, iprop(know T A K ∗ GatSt A c 3 ∗ WaitSt T A 1 c 16 ∗ R) ⊢ Q ⟨k0_pay49 v (slotVal 15 (by decide) (landA T c)), a, b, d⟩) :
    iprop(know T A K ∗ owesX c (oweCel 3 c 1) ∗ WaitSt T A 1 c 15 ∗ (∃ f : Chunk F .bf16, ((c : Thread nD τ).loc cc0_scratch3) ↦{fullShare} f) ∗ GtSt c ∗ R) ⊢ WP c (bufs (k0_part27 (F := F)) c w1 v) Q := by
  unfold bufs
  rw [k0_part27_eq_skeleton]; unfold k0_part27_skel
  simp only [semSignalWord, semWaitWord, Prog.lift, Prog.bind_op, Prog.bind_ret, Prog.pure_eq_ret]
  refine wait_rcv T A K ?_
  refine load_rcv T A K (by decide) ?_
  refine load_chk c fun _ => ?_
  refine store_chk c ?_
  rw [hA]
  refine (enter_gather T A K c).trans ?_
  refine gather T A K ?_
  refine gather T A K ?_
  exact WP_ret (h _ _ _)

theorem part28 (c : Dev nD) (w1 : BitVec 32) {R : sProp 𝕄} {Q : _ → sProp 𝕄}
    (h : ∀ a b d, iprop(know T A K ∗ GatSt A c 6 ∗ R) ⊢ Q ⟨a, b, d⟩) :
    iprop(know T A K ∗ GatSt A c 3 ∗ R) ⊢ WP c (bufs (k0_part28 (F := F)) c w1) Q := by
  unfold bufs
  rw [k0_part28_eq_skeleton]; unfold k0_part28_skel
  simp only [semSignalWord, semWaitWord, Prog.lift, Prog.bind_op, Prog.bind_ret, Prog.pure_eq_ret]
  refine gather T A K ?_
  refine gather T A K ?_
  refine gather T A K ?_
  exact WP_ret (h _ _ _)

theorem part29 (c : Dev nD) (w1 : BitVec 32) {R : sProp 𝕄} {Q : _ → sProp 𝕄}
    (h : ∀ a b d e, iprop(know T A K ∗ GatSt A c 10 ∗ R) ⊢ Q ⟨a, b, d, e⟩) :
    iprop(know T A K ∗ GatSt A c 6 ∗ R) ⊢ WP c (bufs (k0_part29 (F := F)) c w1) Q := by
  unfold bufs
  rw [k0_part29_eq_skeleton]; unfold k0_part29_skel
  simp only [semSignalWord, semWaitWord, Prog.lift, Prog.bind_op, Prog.bind_ret, Prog.pure_eq_ret]
  refine gather T A K ?_
  refine gather T A K ?_
  refine gather T A K ?_
  refine gather T A K ?_
  exact WP_ret (h _ _ _ _)

theorem part30 (c : Dev nD) (w1 : BitVec 32) (w2 : BitVec 32) {R : sProp 𝕄} {Q : _ → sProp 𝕄}
    (h : ∀ a b d, iprop(know T A K ∗ GatSt A c 13 ∗ R) ⊢ Q ⟨a, b, d⟩) :
    iprop(know T A K ∗ GatSt A c 10 ∗ R) ⊢ WP c (bufs (k0_part30 (F := F)) c w1 w2) Q := by
  unfold bufs
  rw [k0_part30_eq_skeleton]; unfold k0_part30_skel
  simp only [semSignalWord, semWaitWord, Prog.lift, Prog.bind_op, Prog.bind_ret, Prog.pure_eq_ret]
  refine gather T A K ?_
  refine gather T A K ?_
  refine gather T A K ?_
  exact WP_ret (h _ _ _)

variable (rd : Chunk F .f32)

theorem part31 (c : Dev nD) {X : sProp 𝕄} (w1 : BitVec 32) (w2 : BitVec 32) {R : sProp 𝕄} {Q : _ → sProp 𝕄}
    (h : ∀ a b, iprop(know T A K ∗ GatSt A c 16 ∗ X ∗ OutSt (FIN rd A c) c 1 ∗ R) ⊢ Q ⟨a, b⟩) :
    iprop(know T A K ∗ GatSt A c 13 ∗ X ∗ OutSt (FIN rd A c) c 0 ∗ R) ⊢ WP c (bufs (k0_part31 (F := F)) c w1 rd w2) Q := by
  unfold bufs
  rw [k0_part31_eq_skeleton]; unfold k0_part31_skel
  simp only [semSignalWord, semWaitWord, Prog.lift, Prog.bind_op, Prog.bind_ret, Prog.pure_eq_ret]
  refine gather T A K ?_
  refine gather T A K ?_
  refine gather T A K ?_
  refine out_load A rd fun _ => ?_
  refine out_store_own A rd ?_
  exact WP_ret (h _ _)

theorem part32 (c : Dev nD) (w1 : BitVec 32) (w2 : BitVec 32) (w3 : BitVec 32) {R : sProp 𝕄} {Q : _ → sProp 𝕄}
    (h : iprop(know T A K ∗ owesX c 0 ∗ WaitSt T A 3 c 3 ∗ OutSt (FIN rd A c) c 3 ∗ R) ⊢ Q PUnit.unit) :
    iprop(know T A K ∗ owesX c 0 ∗ WaitSt T A 3 c 1 ∗ OutSt (FIN rd A c) c 1 ∗ R) ⊢ WP c (bufs (k0_part32 (F := F)) c w1 w2 w3) Q := by
  unfold bufs
  rw [k0_part32_eq_skeleton]; unfold k0_part32_skel
  simp only [semSignalWord, semWaitWord, Prog.lift, Prog.bind_op, Prog.bind_ret, Prog.pure_eq_ret]
  refine wait_gat T A K ?_
  refine load_gat T A K (by decide) ?_
  refine out_load A rd fun _ => ?_
  refine out_store A rd (by decide) ?_
  refine wait_gat T A K ?_
  refine load_gat T A K (by decide) ?_
  refine out_load A rd fun _ => ?_
  refine out_store A rd (by decide) ?_
  exact WP_ret (h)

theorem part33 (c : Dev nD) (w1 : BitVec 32) (w2 : BitVec 32) (w3 : BitVec 32) {R : sProp 𝕄} {Q : _ → sProp 𝕄}
    (h : iprop(know T A K ∗ owesX c 0 ∗ WaitSt T A 3 c 5 ∗ OutSt (FIN rd A c) c 5 ∗ R) ⊢ Q PUnit.unit) :
    iprop(know T A K ∗ owesX c 0 ∗ WaitSt T A 3 c 3 ∗ OutSt (FIN rd A c) c 3 ∗ R) ⊢ WP c (bufs (k0_part33 (F := F)) c w1 w2 w3) Q := by
  unfold bufs
  rw [k0_part33_eq_skeleton]; unfold k0_part33_skel
  simp only [semSignalWord, semWaitWord, Prog.lift, Prog.bind_op, Prog.bind_ret, Prog.pure_eq_ret]
  refine wait_gat T A K ?_
  refine load_gat T A K (by decide) ?_
  refine out_load A rd fun _ => ?_
  refine out_store A rd (by decide) ?_
  refine wait_gat T A K ?_
  refine load_gat T A K (by decide) ?_
  refine out_load A rd fun _ => ?_
  refine out_store A rd (by decide) ?_
  exact WP_ret (h)

theorem part34 (c : Dev nD) (w1 : BitVec 32) (w2 : BitVec 32) (w3 : BitVec 32) {R : sProp 𝕄} {Q : _ → sProp 𝕄}
    (h : iprop(know T A K ∗ owesX c 0 ∗ WaitSt T A 3 c 8 ∗ OutSt (FIN rd A c) c 7 ∗ R) ⊢ Q PUnit.unit) :
    iprop(know T A K ∗ owesX c 0 ∗ WaitSt T A 3 c 5 ∗ OutSt (FIN rd A c) c 5 ∗ R) ⊢ WP c (bufs (k0_part34 (F := F)) c w1 w2 w3) Q := by
  unfold bufs
  rw [k0_part34_eq_skeleton]; unfold k0_part34_skel
  simp only [semSignalWord, semWaitWord, Prog.lift, Prog.bind_op, Prog.bind_ret, Prog.pure_eq_ret]
  refine wait_gat T A K ?_
  refine load_gat T A K (by decide) ?_
  refine out_load A rd fun _ => ?_
  refine out_store A rd (by decide) ?_
  refine wait_gat T A K ?_
  refine load_gat T A K (by decide) ?_
  refine out_load A rd fun _ => ?_
  refine out_store A rd (by decide) ?_
  refine wait_gat T A K ?_
  exact WP_ret (h)

theorem part35 (c : Dev nD) (w1 : BitVec 32) (w2 : BitVec 32) (w3 : BitVec 32) {R : sProp 𝕄} {Q : _ → sProp 𝕄}
    (h : iprop(know T A K ∗ owesX c 0 ∗ WaitSt T A 3 c 10 ∗ OutSt (FIN rd A c) c 9 ∗ R) ⊢ Q PUnit.unit) :
    iprop(know T A K ∗ owesX c 0 ∗ WaitSt T A 3 c 8 ∗ OutSt (FIN rd A c) c 7 ∗ R) ⊢ WP c (bufs (k0_part35 (F := F)) c w1 w2 w3) Q := by
  unfold bufs
  rw [k0_part35_eq_skeleton]; unfold k0_part35_skel
  simp only [semSignalWord, semWaitWord, Prog.lift, Prog.bind_op, Prog.bind_ret, Prog.pure_eq_ret]
  refine load_gat T A K (by decide) ?_
  refine out_load A rd fun _ => ?_
  refine out_store A rd (by decide) ?_
  refine wait_gat T A K ?_
  refine load_gat T A K (by decide) ?_
  refine out_load A rd fun _ => ?_
  refine out_store A rd (by decide) ?_
  refine wait_gat T A K ?_
  exact WP_ret (h)

theorem part36 (c : Dev nD) (w1 : BitVec 32) (w2 : BitVec 32) (w3 : BitVec 32) {R : sProp 𝕄} {Q : _ → sProp 𝕄}
    (h : iprop(know T A K ∗ owesX c 0 ∗ WaitSt T A 3 c 12 ∗ OutSt (FIN rd A c) c 11 ∗ R) ⊢ Q (slotVal 11 (by decide) (landB A c))) :
    iprop(know T A K ∗ owesX c 0 ∗ WaitSt T A 3 c 10 ∗ OutSt (FIN rd A c) c 9 ∗ R) ⊢ WP c (bufs (k0_part36 (F := F)) c w1 w2 w3) Q := by
  unfold bufs
  rw [k0_part36_eq_skeleton]; unfold k0_part36_skel
  simp only [semSignalWord, semWaitWord, Prog.lift, Prog.bind_op, Prog.bind_ret, Prog.pure_eq_ret]
  refine load_gat T A K (by decide) ?_
  refine out_load A rd fun _ => ?_
  refine out_store A rd (by decide) ?_
  refine wait_gat T A K ?_
  refine load_gat T A K (by decide) ?_
  refine out_load A rd fun _ => ?_
  refine out_store A rd (by decide) ?_
  refine wait_gat T A K ?_
  refine load_gat T A K (by decide) ?_
  exact WP_ret (h)

theorem part37 (c : Dev nD) (w1 : BitVec 32) (w2 : BitVec 32) (w3 : BitVec 32) {R : sProp 𝕄} {Q : _ → sProp 𝕄}
    (h : iprop(know T A K ∗ owesX c 0 ∗ WaitSt T A 3 c 14 ∗ OutSt (FIN rd A c) c 13 ∗ R) ⊢ Q (k0_pay64 (slotVal 13 (by decide) (landB A c)))) :
    iprop(know T A K ∗ owesX c 0 ∗ WaitSt T A 3 c 12 ∗ OutSt (FIN rd A c) c 11 ∗ R) ⊢ WP c (bufs (k0_part37 (F := F)) c w1 w2 w3 (slotVal 11 (by decide) (landB A c))) Q := by
  unfold bufs
  rw [k0_part37_eq_skeleton]; unfold k0_part37_skel
  simp only [semSignalWord, semWaitWord, Prog.lift, Prog.bind_op, Prog.bind_ret, Prog.pure_eq_ret]
  refine out_load A rd fun _ => ?_
  refine out_store A rd (by decide) ?_
  refine wait_gat T A K ?_
  refine load_gat T A K (by decide) ?_
  refine out_load A rd fun _ => ?_
  refine out_store A rd (by decide) ?_
  refine wait_gat T A K ?_
  refine load_gat T A K (by decide) ?_
  exact WP_ret (h)

theorem part38 (c : Dev nD) (w1 : BitVec 32) (w2 : BitVec 32) (w3 : BitVec 32) {R : sProp 𝕄} {Q : _ → sProp 𝕄}
    (h : ∀ b, iprop(know T A K ∗ owesX c 0 ∗ WaitSt T A 3 c 16 ∗ OutSt (FIN rd A c) c 15 ∗ R) ⊢ Q ⟨k0_pay67 (slotVal 15 (by decide) (landB A c)), b⟩) :
    iprop(know T A K ∗ owesX c 0 ∗ WaitSt T A 3 c 14 ∗ OutSt (FIN rd A c) c 13 ∗ R) ⊢ WP c (bufs (k0_part38 (F := F)) c w1 w2 w3 (k0_pay64 (slotVal 13 (by decide) (landB A c)))) Q := by
  unfold bufs
  rw [k0_part38_eq_skeleton]; unfold k0_part38_skel
  simp only [semSignalWord, semWaitWord, Prog.lift, Prog.bind_op, Prog.bind_ret, Prog.pure_eq_ret]
  refine out_load A rd fun _ => ?_
  refine out_store A rd (by decide) ?_
  refine wait_gat T A K ?_
  refine load_gat T A K (by decide) ?_
  refine out_load A rd fun _ => ?_
  refine out_store A rd (by decide) ?_
  refine wait_gat T A K ?_
  refine load_gat T A K (by decide) ?_
  exact WP_ret (h _)

theorem part39 (c : Dev nD) (w1 : BitVec 32) {R : sProp 𝕄} {Q : _ → sProp 𝕄}
    (h : iprop(know T A K ∗ owesX c 0 ∗ WaitSt T A 0 c 3 ∗ WaitSt T A 2 c 3 ∗ WaitSt T A 3 c 16 ∗ OutSt (FIN rd A c) c 16 ∗ R) ⊢ Q PUnit.unit) :
    iprop(know T A K ∗ owesX c 0 ∗ WaitSt T A 3 c 16 ∗ OutSt (FIN rd A c) c 15 ∗ WaitSt T A 0 c 1 ∗ WaitSt T A 2 c 1 ∗ R) ⊢ WP c (bufs (k0_part39 (F := F)) c (k0_pay67 (slotVal 15 (by decide) (landB A c))) w1) Q := by
  unfold bufs
  rw [k0_part39_eq_skeleton]; unfold k0_part39_skel
  simp only [semSignalWord, semWaitWord, Prog.lift, Prog.bind_op, Prog.bind_ret, Prog.pure_eq_ret]
  refine out_load A rd fun _ => ?_
  refine out_store A rd (by decide) ?_
  refine (swap3456 _ _ _ _ _ _ _).trans ?_
  refine wait_stg T A K ?_
  refine wait_chk T A K ?_
  refine wait_stg T A K ?_
  refine wait_chk T A K ?_
  exact WP_ret (h)

theorem part40 (c : Dev nD)  {R : sProp 𝕄} {Q : _ → sProp 𝕄}
    (h : iprop(know T A K ∗ owesX c 0 ∗ WaitSt T A 0 c 5 ∗ WaitSt T A 2 c 5 ∗ R) ⊢ Q PUnit.unit) :
    iprop(know T A K ∗ owesX c 0 ∗ WaitSt T A 0 c 3 ∗ WaitSt T A 2 c 3 ∗ R) ⊢ WP c (bufs (k0_part40 (F := F)) c) Q := by
  unfold bufs
  rw [k0_part40_eq_skeleton]; unfold k0_part40_skel
  simp only [semSignalWord, semWaitWord, Prog.lift, Prog.bind_op, Prog.bind_ret, Prog.pure_eq_ret]
  refine wait_stg T A K ?_
  refine wait_chk T A K ?_
  refine wait_stg T A K ?_
  refine wait_chk T A K ?_
  exact WP_ret (h)

theorem part41 (c : Dev nD)  {R : sProp 𝕄} {Q : _ → sProp 𝕄}
    (h : iprop(know T A K ∗ owesX c 0 ∗ WaitSt T A 0 c 8 ∗ WaitSt T A 2 c 7 ∗ R) ⊢ Q PUnit.unit) :
    iprop(know T A K ∗ owesX c 0 ∗ WaitSt T A 0 c 5 ∗ WaitSt T A 2 c 5 ∗ R) ⊢ WP c (bufs (k0_part41 (F := F)) c) Q := by
  unfold bufs
  rw [k0_part41_eq_skeleton]; unfold k0_part41_skel
  simp only [semSignalWord, semWaitWord, Prog.lift, Prog.bind_op, Prog.bind_ret, Prog.pure_eq_ret]
  refine wait_stg T A K ?_
  refine wait_chk T A K ?_
  refine wait_stg T A K ?_
  refine wait_chk T A K ?_
  refine wait_stg T A K ?_
  exact WP_ret (h)

theorem part42 (c : Dev nD)  {R : sProp 𝕄} {Q : _ → sProp 𝕄}
    (h : iprop(know T A K ∗ owesX c 0 ∗ WaitSt T A 0 c 10 ∗ WaitSt T A 2 c 9 ∗ R) ⊢ Q PUnit.unit) :
    iprop(know T A K ∗ owesX c 0 ∗ WaitSt T A 0 c 8 ∗ WaitSt T A 2 c 7 ∗ R) ⊢ WP c (bufs (k0_part42 (F := F)) c) Q := by
  unfold bufs
  rw [k0_part42_eq_skeleton]; unfold k0_part42_skel
  simp only [semSignalWord, semWaitWord, Prog.lift, Prog.bind_op, Prog.bind_ret, Prog.pure_eq_ret]
  refine wait_chk T A K ?_
  refine wait_stg T A K ?_
  refine wait_chk T A K ?_
  refine wait_stg T A K ?_
  exact WP_ret (h)

theorem part43 (c : Dev nD)  {R : sProp 𝕄} {Q : _ → sProp 𝕄}
    (h : iprop(know T A K ∗ owesX c 0 ∗ WaitSt T A 0 c 12 ∗ WaitSt T A 2 c 12 ∗ R) ⊢ Q PUnit.unit) :
    iprop(know T A K ∗ owesX c 0 ∗ WaitSt T A 0 c 10 ∗ WaitSt T A 2 c 9 ∗ R) ⊢ WP c (bufs (k0_part43 (F := F)) c) Q := by
  unfold bufs
  rw [k0_part43_eq_skeleton]; unfold k0_part43_skel
  simp only [semSignalWord, semWaitWord, Prog.lift, Prog.bind_op, Prog.bind_ret, Prog.pure_eq_ret]
  refine wait_chk T A K ?_
  refine wait_stg T A K ?_
  refine wait_chk T A K ?_
  refine wait_stg T A K ?_
  refine wait_chk T A K ?_
  exact WP_ret (h)

theorem part44 (c : Dev nD)  {R : sProp 𝕄} {Q : _ → sProp 𝕄}
    (h : iprop(know T A K ∗ owesX c 0 ∗ WaitSt T A 0 c 15 ∗ WaitSt T A 2 c 14 ∗ R) ⊢ Q PUnit.unit) :
    iprop(know T A K ∗ owesX c 0 ∗ WaitSt T A 0 c 12 ∗ WaitSt T A 2 c 12 ∗ R) ⊢ WP c (bufs (k0_part44 (F := F)) c) Q := by
  unfold bufs
  rw [k0_part44_eq_skeleton]; unfold k0_part44_skel
  simp only [semSignalWord, semWaitWord, Prog.lift, Prog.bind_op, Prog.bind_ret, Prog.pure_eq_ret]
  refine wait_stg T A K ?_
  refine wait_chk T A K ?_
  refine wait_stg T A K ?_
  refine wait_chk T A K ?_
  refine wait_stg T A K ?_
  exact WP_ret (h)

end Cert.KernelIdeal.Xch
-- ==== Proof.KernelIdeal.Compute.lean ====
/-
  The parts of the body that compute a device's partial sums: twelve reads of the inputs and their arithmetic.
-/
module

public import proofs.«01_k».proof.Proof.KernelIdeal.Ops

@[expose] public section

noncomputable section

namespace Cert.KernelIdeal.Xch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem part1 (c : Dev nD) {I : Inp F} {R : sProp 𝕄} {Q : _ → sProp 𝕄}
    (h : ∀ w, iprop(Ins c I ∗ R) ⊢ Q ⟨c, w, k0_pay1 I.wq, k0_pay2 I.wq (xV 0 I.x), k0_pay3 (F := F), k0_pay4 I.wq (xV 0 I.x) (hV 0 0 I.k) (hV 0 0 I.v) (oV 0 I.wo)⟩) :
    iprop(Ins c I ∗ R) ⊢ WP c (bufs (k0_part1 (F := F))) Q := by
  unfold bufs
  rw [k0_part1_eq_skeleton]; unfold k0_part1_skel
  simp only [semSignalWord, semWaitWord, Prog.lift, Prog.bind_op, Prog.bind_ret, Prog.pure_eq_ret]
  refine device ?_
  refine load_wq ?_
  refine load_x 0 ?_
  refine load_k 0 0 ?_
  refine load_v 0 0 ?_
  refine load_wo 0 ?_
  exact WP_ret (h _)

theorem part2 (c : Dev nD) {I : Inp F} (v7 : FVec F S128x512 .f32) (v8 : FVec F S128x512 .f32) (v33 : FVec F S128x512 .f32) {R : sProp 𝕄} {Q : _ → sProp 𝕄}
    (h : iprop(Ins c I ∗ R) ⊢ Q ⟨k0_pay5 v7 v8 v33 (hV 0 1 I.k) (hV 0 1 I.v) (oV 1 I.wo), k0_pay6 v7, k0_pay7 (hV 0 2 I.k), k0_pay8 (hV 0 2 I.v)⟩) :
    iprop(Ins c I ∗ R) ⊢ WP c (bufs (k0_part2 (F := F)) v7 v8 v33) Q := by
  unfold bufs
  rw [k0_part2_eq_skeleton]; unfold k0_part2_skel
  simp only [semSignalWord, semWaitWord, Prog.lift, Prog.bind_op, Prog.bind_ret, Prog.pure_eq_ret]
  refine load_k 0 1 ?_
  refine load_v 0 1 ?_
  refine load_wo 1 ?_
  refine load_k 0 2 ?_
  refine load_v 0 2 ?_
  exact WP_ret (h)

theorem part3 (c : Dev nD) {I : Inp F} (v7 : FVec F S128x512 .f32) (v60 : FVec F S128x512 .f32) (v64 : FVec F S128x64 .bf16) (v66 : FVec F S128x64 .bf16) (v68 : FVec F S128x64 .bf16) {R : sProp 𝕄} {Q : _ → sProp 𝕄}
    (h : iprop(Ins c I ∗ R) ⊢ Q ⟨k0_pay9 v60 v64 v66 v68 (oV 2 I.wo), k0_pay10 v7 (hV 0 3 I.k) (hV 0 3 I.v)⟩) :
    iprop(Ins c I ∗ R) ⊢ WP c (bufs (k0_part3 (F := F)) v7 v60 v64 v66 v68) Q := by
  unfold bufs
  rw [k0_part3_eq_skeleton]; unfold k0_part3_skel
  simp only [semSignalWord, semWaitWord, Prog.lift, Prog.bind_op, Prog.bind_ret, Prog.pure_eq_ret]
  refine load_wo 2 ?_
  refine load_k 0 3 ?_
  refine load_v 0 3 ?_
  exact WP_ret (h)

theorem part4 (c : Dev nD) {I : Inp F} (v7 : FVec F S128x512 .f32) (v86 : FVec F S128x512 .f32) (v107 : FVec F S128x64 .f32) {R : sProp 𝕄} {Q : _ → sProp 𝕄}
    (h : iprop(Ins c I ∗ R) ⊢ Q ⟨k0_pay11 v7 v86 v107 (oV 3 I.wo) (hV 0 4 I.k) (hV 0 4 I.v) (oV 4 I.wo), k0_pay12 v7, k0_pay13 (hV 0 5 I.k)⟩) :
    iprop(Ins c I ∗ R) ⊢ WP c (bufs (k0_part4 (F := F)) v7 v86 v107) Q := by
  unfold bufs
  rw [k0_part4_eq_skeleton]; unfold k0_part4_skel
  simp only [semSignalWord, semWaitWord, Prog.lift, Prog.bind_op, Prog.bind_ret, Prog.pure_eq_ret]
  refine load_wo 3 ?_
  refine load_k 0 4 ?_
  refine load_v 0 4 ?_
  refine load_wo 4 ?_
  refine load_k 0 5 ?_
  exact WP_ret (h)

theorem part5 (c : Dev nD) {I : Inp F} (v7 : FVec F S128x512 .f32) (v138 : FVec F S128x512 .f32) (v142 : FVec F S128x64 .bf16) (v144 : FVec F S128x64 .bf16) {R : sProp 𝕄} {Q : _ → sProp 𝕄}
    (h : iprop(Ins c I ∗ R) ⊢ Q ⟨k0_pay14 v138 v142 v144 (hV 0 5 I.v) (oV 5 I.wo), k0_pay15 (hV 0 6 I.v), k0_pay16 v7 (hV 0 6 I.k), k0_pay17 v7 (hV 0 6 I.k)⟩) :
    iprop(Ins c I ∗ R) ⊢ WP c (bufs (k0_part5 (F := F)) v7 v138 v142 v144) Q := by
  unfold bufs
  rw [k0_part5_eq_skeleton]; unfold k0_part5_skel
  simp only [semSignalWord, semWaitWord, Prog.lift, Prog.bind_op, Prog.bind_ret, Prog.pure_eq_ret]
  refine load_v 0 5 ?_
  refine load_wo 5 ?_
  refine load_k 0 6 ?_
  refine load_v 0 6 ?_
  exact WP_ret (h)

theorem part6 (c : Dev nD) {I : Inp F} {P : Slots F .f32} {T : Slots F .bf16} (v7 : FVec F S128x512 .f32) (v164 : FVec F S128x512 .f32) (v172 : FVec F S128x64 .bf16) (v179 : FVec F S128x128 .f32) (v181 : FVec F S128x1 .f32) {R : sProp 𝕄} {Q : _ → sProp 𝕄}
    (h : ∀ v, iprop(Ins c I ∗ (LoP c P 0 ∗ LoT c T 0) ∗ R) ⊢ Q ⟨k0_pay18 v7 v164 v172 v179 v181 (oV 6 I.wo) (hV 0 7 I.k) (hV 0 7 I.v) (oV 7 I.wo), k0_pay19 v7 v164 v172 v179 v181 (oV 6 I.wo) (hV 0 7 I.k) (hV 0 7 I.v) (oV 7 I.wo), v⟩) :
    iprop(Ins c I ∗ (LoP c P 0 ∗ LoT c T 0) ∗ R) ⊢ WP c (bufs (k0_part6 (F := F)) v7 v164 v172 v179 v181) Q := by
  unfold bufs
  rw [k0_part6_eq_skeleton]; unfold k0_part6_skel
  simp only [semSignalWord, semWaitWord, Prog.lift, Prog.bind_op, Prog.bind_ret, Prog.pure_eq_ret]
  refine load_wo 6 ?_
  refine load_k 0 7 ?_
  refine load_v 0 7 ?_
  refine load_wo 7 ?_
  refine load_half_part c fun v => ?_
  exact WP_ret (h _)

theorem part7 (c : Dev nD) {I : Inp F} {P : Slots F .f32} {T : Slots F .bf16} (v4 : FVec F S512x512 .bf16) (v216 : FVec F S128x512 .f32) (v217 : FVec F S8x16x512 .f32) (v218 : FVec F S8x16x512 .f32) {R : sProp 𝕄} {Q : _ → sProp 𝕄}
    (hP : ∀ (x : S8x16x512.Idx) (hx : 0 + (x 0).val < 16), k0_pay20 v217 x = P (ValueIdx.ix3 (⟨0 + (x 0).val, hx⟩ : Fin 16) (⟨(x 1).val, (x 1).isLt⟩ : Fin 16) (⟨(x 2).val, (x 2).isLt⟩ : Fin 512)))
    (hT : ∀ (x : S8x16x512.Idx) (hx : 0 + (x 0).val < 16), k0_pay21 v216 x = T (ValueIdx.ix3 (⟨0 + (x 0).val, hx⟩ : Fin 16) (⟨(x 1).val, (x 1).isLt⟩ : Fin 16) (⟨(x 2).val, (x 2).isLt⟩ : Fin 512)))
    (h : iprop(Ins c I ∗ (LoP c P 8 ∗ LoT c T 8) ∗ R) ⊢ Q ⟨k0_pay22 v4 (xV 1 I.x), k0_pay23 (F := F), k0_pay24 (oV 0 I.wo), k0_pay25 v4 (xV 1 I.x) (hV 1 0 I.k) (hV 1 0 I.v)⟩) :
    iprop(Ins c I ∗ (LoP c P 0 ∗ LoT c T 0) ∗ R) ⊢ WP c (bufs (k0_part7 (F := F)) v4 v216 v217 v218) Q := by
  unfold bufs
  rw [k0_part7_eq_skeleton]; unfold k0_part7_skel
  simp only [semSignalWord, semWaitWord, Prog.lift, Prog.bind_op, Prog.bind_ret, Prog.pure_eq_ret]
  refine store_half_part c (by decide) rfl hP ?_
  refine load_half_stg c fun _ => ?_
  refine store_half_stg c (by decide) rfl hT ?_
  refine load_x 1 ?_
  refine load_k 1 0 ?_
  refine load_v 1 0 ?_
  refine load_wo 0 ?_
  exact WP_ret (h)

theorem part8 (c : Dev nD) {I : Inp F} (v228 : FVec F S128x512 .f32) (v229 : FVec F S128x512 .f32) (v252 : FVec F S64x512 .bf16) (v253 : FVec F S128x64 .bf16) {R : sProp 𝕄} {Q : _ → sProp 𝕄}
    (h : iprop(Ins c I ∗ R) ⊢ Q ⟨k0_pay26 v228 v229 v252 v253 (hV 1 1 I.k) (hV 1 1 I.v) (oV 1 I.wo), k0_pay27 v228, k0_pay28 (hV 1 2 I.k)⟩) :
    iprop(Ins c I ∗ R) ⊢ WP c (bufs (k0_part8 (F := F)) v228 v229 v252 v253) Q := by
  unfold bufs
  rw [k0_part8_eq_skeleton]; unfold k0_part8_skel
  simp only [semSignalWord, semWaitWord, Prog.lift, Prog.bind_op, Prog.bind_ret, Prog.pure_eq_ret]
  refine load_k 1 1 ?_
  refine load_v 1 1 ?_
  refine load_wo 1 ?_
  refine load_k 1 2 ?_
  exact WP_ret (h)

theorem part9 (c : Dev nD) {I : Inp F} (v228 : FVec F S128x512 .f32) (v281 : FVec F S128x512 .f32) (v285 : FVec F S128x64 .bf16) (v287 : FVec F S128x64 .bf16) {R : sProp 𝕄} {Q : _ → sProp 𝕄}
    (h : iprop(Ins c I ∗ R) ⊢ Q ⟨k0_pay29 v281 v285 v287 (hV 1 2 I.v) (oV 2 I.wo), k0_pay31 v228 (hV 1 3 I.k) (hV 1 3 I.v), k0_pay32 v228 (hV 1 3 I.k)⟩) :
    iprop(Ins c I ∗ R) ⊢ WP c (bufs (k0_part9 (F := F)) v228 v281 v285 v287) Q := by
  unfold bufs
  rw [k0_part9_eq_skeleton]; unfold k0_part9_skel
  simp only [semSignalWord, semWaitWord, Prog.lift, Prog.bind_op, Prog.bind_ret, Prog.pure_eq_ret]
  refine load_v 1 2 ?_
  refine load_wo 2 ?_
  refine load_k 1 3 ?_
  refine load_v 1 3 ?_
  exact WP_ret (h)

theorem part10 (c : Dev nD) {I : Inp F} (v228 : FVec F S128x512 .f32) (v307 : FVec F S128x512 .f32) (v326 : FVec F S128x64 .f32) (v327 : FVec F S128x64 .f32) {R : sProp 𝕄} {Q : _ → sProp 𝕄}
    (h : iprop(Ins c I ∗ R) ⊢ Q ⟨k0_pay33 v228 v307 v326 v327 (oV 3 I.wo) (hV 1 4 I.k) (hV 1 4 I.v) (oV 4 I.wo), k0_pay34 v228⟩) :
    iprop(Ins c I ∗ R) ⊢ WP c (bufs (k0_part10 (F := F)) v228 v307 v326 v327) Q := by
  unfold bufs
  rw [k0_part10_eq_skeleton]; unfold k0_part10_skel
  simp only [semSignalWord, semWaitWord, Prog.lift, Prog.bind_op, Prog.bind_ret, Prog.pure_eq_ret]
  refine load_wo 3 ?_
  refine load_k 1 4 ?_
  refine load_v 1 4 ?_
  refine load_wo 4 ?_
  exact WP_ret (h)

theorem part11 (c : Dev nD) {I : Inp F} (v228 : FVec F S128x512 .f32) (v359 : FVec F S128x512 .f32) (v363 : FVec F S128x64 .bf16) {R : sProp 𝕄} {Q : _ → sProp 𝕄}
    (h : iprop(Ins c I ∗ R) ⊢ Q ⟨k0_pay35 v359 v363 (hV 1 5 I.k) (hV 1 5 I.v) (oV 5 I.wo), k0_pay36 (hV 1 6 I.v), k0_pay37 v228 (hV 1 6 I.k)⟩) :
    iprop(Ins c I ∗ R) ⊢ WP c (bufs (k0_part11 (F := F)) v228 v359 v363) Q := by
  unfold bufs
  rw [k0_part11_eq_skeleton]; unfold k0_part11_skel
  simp only [semSignalWord, semWaitWord, Prog.lift, Prog.bind_op, Prog.bind_ret, Prog.pure_eq_ret]
  refine load_k 1 5 ?_
  refine load_v 1 5 ?_
  refine load_wo 5 ?_
  refine load_k 1 6 ?_
  refine load_v 1 6 ?_
  exact WP_ret (h)

theorem part12 (c : Dev nD) {I : Inp F} (v228 : FVec F S128x512 .f32) (v385 : FVec F S128x512 .f32) (v393 : FVec F S128x64 .bf16) (v400 : FVec F S128x128 .f32) {R : sProp 𝕄} {Q : _ → sProp 𝕄}
    (h : iprop(Ins c I ∗ R) ⊢ Q ⟨k0_pay38 v228 v385 v393 v400 (oV 6 I.wo) (hV 1 7 I.k) (hV 1 7 I.v) (oV 7 I.wo), k0_pay39 v228 v385 v393 v400 (oV 6 I.wo) (hV 1 7 I.k) (hV 1 7 I.v) (oV 7 I.wo)⟩) :
    iprop(Ins c I ∗ R) ⊢ WP c (bufs (k0_part12 (F := F)) v228 v385 v393 v400) Q := by
  unfold bufs
  rw [k0_part12_eq_skeleton]; unfold k0_part12_skel
  simp only [semSignalWord, semWaitWord, Prog.lift, Prog.bind_op, Prog.bind_ret, Prog.pure_eq_ret]
  refine load_wo 6 ?_
  refine load_k 1 7 ?_
  refine load_v 1 7 ?_
  refine load_wo 7 ?_
  exact WP_ret (h)

end Cert.KernelIdeal.Xch
-- ==== Proof.KernelIdeal.Vals.lean ====
/-
  What the body computes from the inputs: each device's partial sums, the chunk it sums over the devices, and the result.
-/
module

public import proofs.«01_k».proof.Proof.KernelIdeal.Compute
public import proofs.«01_k».proof.Proof.KernelIdeal.Ops

@[expose] public section

noncomputable section

namespace Cert.KernelIdeal.Xch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Two halves of eight slots as one buffer of sixteen. -/
def halves {e : EltTy} (a b : S8x16x512.Idx → Elt F e) : Slots F e := fun i =>
  if h : (i 0).val < 8 then a (ValueIdx.ix3 (⟨(i 0).val, h⟩ : Fin 8) (⟨(i 1).val, (i 1).isLt⟩ : Fin 16) (⟨(i 2).val, (i 2).isLt⟩ : Fin 512))
  else b (ValueIdx.ix3 (⟨(i 0).val - 8, by have h' : (i 0).val < 16 := (i 0).isLt; omega⟩ : Fin 8) (⟨(i 1).val, (i 1).isLt⟩ : Fin 16) (⟨(i 2).val, (i 2).isLt⟩ : Fin 512))

theorem ix8_eta (x : S8x16x512.Idx) (j : Fin 8) (hj : j.val = (x 0).val) :
    (ValueIdx.ix3 j (⟨(x 1).val, (x 1).isLt⟩ : Fin 16) (⟨(x 2).val, (x 2).isLt⟩ : Fin 512) : S8x16x512.Idx) = x :=
  funext fun a => Fin.ext (by
    fin_cases a
    · exact hj
    · rfl
    · rfl)

theorem halves_lo {e : EltTy} (a b : S8x16x512.Idx → Elt F e) (x : S8x16x512.Idx) (hx : 0 + (x 0).val < 16) :
    a x = halves a b (ValueIdx.ix3 (⟨0 + (x 0).val, hx⟩ : Fin 16) (⟨(x 1).val, (x 1).isLt⟩ : Fin 16) (⟨(x 2).val, (x 2).isLt⟩ : Fin 512)) := by
  have h8 : (x 0).val < 8 := (x 0).isLt
  refine ((dif_pos (show 0 + (x 0).val < 8 by omega)).trans (congrArg a ?_)).symm
  exact ix8_eta x _ (Nat.zero_add _)
theorem halves_hi {e : EltTy} (a b : S8x16x512.Idx → Elt F e) (x : S8x16x512.Idx) (hx : 8 + (x 0).val < 16) :
    b x = halves a b (ValueIdx.ix3 (⟨8 + (x 0).val, hx⟩ : Fin 16) (⟨(x 1).val, (x 1).isLt⟩ : Fin 16) (⟨(x 2).val, (x 2).isLt⟩ : Fin 512)) := by
  refine ((dif_neg (show ¬ 8 + (x 0).val < 8 by omega)).trans (congrArg b ?_)).symm
  exact ix8_eta x _ (Nat.add_sub_cancel_left 8 _)

section
variable (I : Inp F)

/-! ## One device's partial sums: heads 0 to 7 of batch 0, then of batch 1 -/

def q0 : FVec F S128x512 .f32 := k0_pay2 I.wq (xV 0 I.x)
def a0 : FVec F S128x512 .f32 := k0_pay4 I.wq (xV 0 I.x) (hV 0 0 I.k) (hV 0 0 I.v) (oV 0 I.wo)
def a1 : FVec F S128x512 .f32 := k0_pay5 (q0 I) k0_pay3 (a0 I) (hV 0 1 I.k) (hV 0 1 I.v) (oV 1 I.wo)
def a2 : FVec F S128x512 .f32 := k0_pay9 (a1 I) (k0_pay6 (q0 I)) (k0_pay7 (hV 0 2 I.k)) (k0_pay8 (hV 0 2 I.v)) (oV 2 I.wo)
def a4 : FVec F S128x512 .f32 := k0_pay11 (q0 I) (a2 I) (k0_pay10 (q0 I) (hV 0 3 I.k) (hV 0 3 I.v)) (oV 3 I.wo) (hV 0 4 I.k) (hV 0 4 I.v) (oV 4 I.wo)
def a5 : FVec F S128x512 .f32 := k0_pay14 (a4 I) (k0_pay12 (q0 I)) (k0_pay13 (hV 0 5 I.k)) (hV 0 5 I.v) (oV 5 I.wo)
def a7 : FVec F S128x512 .f32 := k0_pay18 (q0 I) (a5 I) (k0_pay15 (hV 0 6 I.v)) (k0_pay16 (q0 I) (hV 0 6 I.k)) (k0_pay17 (q0 I) (hV 0 6 I.k)) (oV 6 I.wo) (hV 0 7 I.k) (hV 0 7 I.v) (oV 7 I.wo)
def a8 : FVec F S8x16x512 .f32 := k0_pay19 (q0 I) (a5 I) (k0_pay15 (hV 0 6 I.v)) (k0_pay16 (q0 I) (hV 0 6 I.k)) (k0_pay17 (q0 I) (hV 0 6 I.k)) (oV 6 I.wo) (hV 0 7 I.k) (hV 0 7 I.v) (oV 7 I.wo)
def q1 : FVec F S128x512 .f32 := k0_pay22 (k0_pay1 I.wq) (xV 1 I.x)
def b1 : FVec F S128x512 .f32 := k0_pay26 (q1 I) k0_pay23 (k0_pay24 (oV 0 I.wo)) (k0_pay25 (k0_pay1 I.wq) (xV 1 I.x) (hV 1 0 I.k) (hV 1 0 I.v)) (hV 1 1 I.k) (hV 1 1 I.v) (oV 1 I.wo)
def b2 : FVec F S128x512 .f32 := k0_pay29 (b1 I) (k0_pay27 (q1 I)) (k0_pay28 (hV 1 2 I.k)) (hV 1 2 I.v) (oV 2 I.wo)
def b4 : FVec F S128x512 .f32 := k0_pay33 (q1 I) (b2 I) (k0_pay31 (q1 I) (hV 1 3 I.k) (hV 1 3 I.v)) (k0_pay32 (q1 I) (hV 1 3 I.k)) (oV 3 I.wo) (hV 1 4 I.k) (hV 1 4 I.v) (oV 4 I.wo)
def b5 : FVec F S128x512 .f32 := k0_pay35 (b4 I) (k0_pay34 (q1 I)) (hV 1 5 I.k) (hV 1 5 I.v) (oV 5 I.wo)
def b7 : FVec F S128x512 .f32 := k0_pay38 (q1 I) (b5 I) (k0_pay36 (hV 1 6 I.v)) (k0_pay37 (q1 I) (hV 1 6 I.k)) (oV 6 I.wo) (hV 1 7 I.k) (hV 1 7 I.v) (oV 7 I.wo)
def b8 : FVec F S8x16x512 .f32 := k0_pay39 (q1 I) (b5 I) (k0_pay36 (hV 1 6 I.v)) (k0_pay37 (q1 I) (hV 1 6 I.k)) (oV 6 I.wo) (hV 1 7 I.k) (hV 1 7 I.v) (oV 7 I.wo)

/-- The partial sums, by slots. -/
def sums : Slots F .f32 := halves (k0_pay20 (a8 I)) (k0_pay40 (b8 I))
/-- The partial sums as they are sent. -/
def sent : Slots F .bf16 := halves (k0_pay21 (a7 I)) (k0_pay41 (b7 I))

end

section
variable (inp : Dev nD → Inp F)

/-! ## The sum of a chunk over the devices -/

/-- What each device sends. -/
def TT : Dev nD → Slots F .bf16 := fun c => sent (inp c)
theorem sums_lo (c : Dev nD) (x : S8x16x512.Idx) (hx : 0 + (x 0).val < 16) :
    k0_pay20 (a8 (inp c)) x = sums (inp c) (ValueIdx.ix3 (⟨0 + (x 0).val, hx⟩ : Fin 16) (⟨(x 1).val, (x 1).isLt⟩ : Fin 16) (⟨(x 2).val, (x 2).isLt⟩ : Fin 512)) :=
  halves_lo (e := .f32) (k0_pay20 (a8 (inp c))) (k0_pay40 (b8 (inp c))) x hx
theorem sent_lo (c : Dev nD) (x : S8x16x512.Idx) (hx : 0 + (x 0).val < 16) :
    k0_pay21 (a7 (inp c)) x = TT inp c (ValueIdx.ix3 (⟨0 + (x 0).val, hx⟩ : Fin 16) (⟨(x 1).val, (x 1).isLt⟩ : Fin 16) (⟨(x 2).val, (x 2).isLt⟩ : Fin 512)) :=
  halves_lo (e := .bf16) (k0_pay21 (a7 (inp c))) (k0_pay41 (b7 (inp c))) x hx
theorem sums_hi (c : Dev nD) (x : S8x16x512.Idx) (hx : 8 + (x 0).val < 16) :
    k0_pay40 (b8 (inp c)) x = sums (inp c) (ValueIdx.ix3 (⟨8 + (x 0).val, hx⟩ : Fin 16) (⟨(x 1).val, (x 1).isLt⟩ : Fin 16) (⟨(x 2).val, (x 2).isLt⟩ : Fin 512)) :=
  halves_hi (e := .f32) (k0_pay20 (a8 (inp c))) (k0_pay40 (b8 (inp c))) x hx
theorem sent_hi (c : Dev nD) (x : S8x16x512.Idx) (hx : 8 + (x 0).val < 16) :
    k0_pay41 (b7 (inp c)) x = TT inp c (ValueIdx.ix3 (⟨8 + (x 0).val, hx⟩ : Fin 16) (⟨(x 1).val, (x 1).isLt⟩ : Fin 16) (⟨(x 2).val, (x 2).isLt⟩ : Fin 512)) :=
  halves_hi (e := .bf16) (k0_pay21 (a7 (inp c))) (k0_pay41 (b7 (inp c))) x hx

/-- Slot `k` of what has landed with device `c`. -/
abbrev land (c : Dev nD) (k : ℕ) (hk : k < 16) : Vec F S1x16x512 .bf16 := slotVal k hk (landA (TT inp) c)

def s0 (c : Dev nD) : FVec F S16x512 .f32 := k0_pay42 (slotVal c.val c.isLt (sums (inp c)))
def s2 (c : Dev nD) : FVec F S16x512 .f32 := k0_pay43 (s0 inp c) (land inp c 1 (by decide)) (land inp c 2 (by decide))
def s5 (c : Dev nD) : FVec F S16x512 .f32 := k0_pay44 (s2 inp c) (land inp c 3 (by decide)) (land inp c 4 (by decide)) (land inp c 5 (by decide))
def s7 (c : Dev nD) : FVec F S16x512 .f32 := k0_pay45 (s5 inp c) (land inp c 6 (by decide)) (land inp c 7 (by decide))
def s9 (c : Dev nD) : FVec F S16x512 .f32 := k0_pay46 (s7 inp c) (land inp c 8 (by decide)) (land inp c 9 (by decide))
def s12 (c : Dev nD) : FVec F S16x512 .f32 := k0_pay47 (s9 inp c) (land inp c 10 (by decide)) (land inp c 11 (by decide)) (land inp c 12 (by decide))
def s14 (c : Dev nD) : FVec F S16x512 .f32 := k0_pay48 (s12 inp c) (land inp c 13 (by decide)) (land inp c 14 (by decide))
/-- The chunk device `c` sums. -/
def rdF (c : Dev nD) : FVec F S16x512 .f32 := k0_pay49 (s14 inp c) (land inp c 15 (by decide))
/-- The chunk as it is sent. -/
def AA (c : Dev nD) : Chunk F .bf16 := k0_pay50 (s14 inp c) (land inp c 15 (by decide))
/-- The result on device `c`. -/
def RES (c : Dev nD) : Slots F .f32 := FIN (rdF inp c) (AA inp) c

end

end Cert.KernelIdeal.Xch
-- ==== Proof.KernelIdeal.Body.lean ====
/-
  The body of the kernel on a device, from what the launch gives it to what it gives back.
-/
module

public import proofs.«01_k».proof.Proof.KernelIdeal.Exchange
public import proofs.«01_k».proof.Proof.KernelIdeal.Vals

@[expose] public section

noncomputable section

namespace Cert.KernelIdeal.Xch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem WP_bind {α β : Type} {c : Dev nD} {p : Prog (TpuEff nD τ sig (Elt F) Λ₀ .tc) α} {k : α → Prog (TpuEff nD τ sig (Elt F) Λ₀ .tc) β}
    {X : sProp 𝕄} {Q : β → sProp 𝕄} (h : X ⊢ WP c p (fun a => WP c (k a) Q)) : X ⊢ WP c (p >>= k) Q := by
  unfold WP at *; rw [Sem.wp_bind]; exact h

section
variable (inp : Dev nD → Inp F) (K : CI → ℕ)

abbrev know' : sProp 𝕄 := know (TT inp) (AA inp) K
abbrev scr3 (c : Dev nD) : sProp 𝕄 := iprop(∃ f : Chunk F .bf16, ((c : Thread nD τ).loc cc0_scratch3) ↦{fullShare} f)
abbrev own' (c : Dev nD) : sProp 𝕄 := iprop(atPos ER (barCell c) 1 ∅ 0 ∗ stgP c c.val (TT inp c))
abbrev wait' (a : ℕ) (c : Dev nD) (k : ℕ) : sProp 𝕄 := WaitSt (TT inp) (AA inp) a c k

/-- What device `c` holds when its body starts. -/
def BodyIn (c : Dev nD) : sProp 𝕄 :=
  iprop(Ins c (inp c) ∗ (LoP c (sums (inp c)) 0 ∗ LoT c (TT inp c) 0)
    ∗ know' inp K ∗ SigSt c 1 ∗ BarSt c ∗ ScTok c ∗ GtTok c ∗ scr3 c ∗ Pos 0 c ∗ Pos 1 c ∗ Pos 2 c ∗ Pos 3 c ∗ Crd 1 c ∗ Crd 3 c ∗ OutSt (RES inp c) c 0)
/-- What it holds when the body ends. -/
def BodyOut (c : Dev nD) : sProp 𝕄 :=
  iprop(know' inp K ∗ owesX c 0 ∗ wait' inp 0 c 16 ∗ wait' inp 2 c 16 ∗ wait' inp 3 c 16 ∗ OutSt (RES inp c) c 16
    ∗ wait' inp 1 c 16 ∗ partP c (sums (inp c)) ∗ own' inp c ∗ Ins c (inp c))

theorem to_signal (c : Dev nD) :
    iprop(Ins c (inp c) ∗ (LoP c (sums (inp c)) 8 ∗ LoT c (TT inp c) 8) ∗ know' inp K ∗ SigSt c 1 ∗ BarSt c ∗ ScTok c ∗ GtTok c ∗ scr3 c ∗ Pos 0 c ∗ Pos 1 c ∗ Pos 2 c ∗ Pos 3 c ∗ Crd 1 c ∗ Crd 3 c ∗ OutSt (RES inp c) c 0)
    ⊢ iprop(know' inp K ∗ (LoP c (sums (inp c)) 8 ∗ LoT c (TT inp c) 8) ∗ SigSt c 1 ∗ BarSt c ∗ ScTok c ∗ GtTok c ∗ Ins c (inp c) ∗ scr3 c ∗ Pos 0 c ∗ Pos 1 c ∗ Pos 2 c ∗ Pos 3 c ∗ Crd 1 c ∗ Crd 3 c ∗ OutSt (RES inp c) c 0) := by
  iintro ⟨HI, HL, Hk, HS, HB, Ht, Hg, HR⟩
  isplitl [Hk]; · iexact Hk
  isplitl [HL]; · iexact HL
  isplitl [HS]; · iexact HS
  isplitl [HB]; · iexact HB
  isplitl [Ht]; · iexact Ht
  isplitl [Hg]; · iexact Hg
  isplitl [HI]; · iexact HI
  iexact HR

theorem to_scatter (c : Dev nD) :
    iprop(know' inp K ∗ SigSt c 14 ∗ (LoP c (sums (inp c)) 16 ∗ LoT c (TT inp c) 16) ∗ BarSt c ∗ ScTok c ∗ GtTok c ∗ Ins c (inp c) ∗ scr3 c ∗ Pos 0 c ∗ Pos 1 c ∗ Pos 2 c ∗ Pos 3 c ∗ Crd 1 c ∗ Crd 3 c ∗ OutSt (RES inp c) c 0)
    ⊢ iprop(know' inp K ∗ SigSt c 14 ∗ BarSt c ∗ ScSt c (TT inp c) ∗ GtTok c ∗ partP c (sums (inp c)) ∗ Ins c (inp c) ∗ scr3 c ∗ Pos 0 c ∗ Pos 1 c ∗ Pos 2 c ∗ Pos 3 c ∗ Crd 1 c ∗ Crd 3 c ∗ OutSt (RES inp c) c 0) := by
  unfold ScSt
  iintro ⟨Hk, HS, ⟨HP, HT⟩, HB, Ht, Hg, HR⟩
  isplitl [Hk]; · iexact Hk
  isplitl [HS]; · iexact HS
  isplitl [HB]; · iexact HB
  isplitl [HT Ht]
  · isplitl [HT]; · iexact HT
    iexact Ht
  isplitl [Hg]; · iexact Hg
  isplitl [HP]; · iapply loP_full $$ HP
  iexact HR

theorem to_part (c : Dev nD) :
    iprop(know' inp K ∗ SndSt (TT inp) c 13 ∗ own' inp c ∗ GtSt c ∗ partP c (sums (inp c)) ∗ Ins c (inp c) ∗ scr3 c ∗ Pos 0 c ∗ Pos 1 c ∗ Pos 2 c ∗ Pos 3 c ∗ Crd 1 c ∗ Crd 3 c ∗ OutSt (RES inp c) c 0)
    ⊢ iprop(know' inp K ∗ SndSt (TT inp) c 13 ∗ partP c (sums (inp c)) ∗ own' inp c ∗ GtSt c ∗ Ins c (inp c) ∗ scr3 c ∗ Pos 0 c ∗ Pos 1 c ∗ Pos 2 c ∗ Pos 3 c ∗ Crd 1 c ∗ Crd 3 c ∗ OutSt (RES inp c) c 0) := by
  iintro ⟨Hk, HS, HE, HG, HP, HR⟩
  isplitl [Hk]; · iexact Hk
  isplitl [HS]; · iexact HS
  isplitl [HP]; · iexact HP
  isplitl [HE]; · iexact HE
  isplitl [HG]; · iexact HG
  iexact HR

theorem to_sum (c : Dev nD) :
    iprop(know' inp K ∗ SndSt (TT inp) c 16 ∗ partP c (sums (inp c)) ∗ own' inp c ∗ GtSt c ∗ Ins c (inp c) ∗ scr3 c ∗ Pos 0 c ∗ Pos 1 c ∗ Pos 2 c ∗ Pos 3 c ∗ Crd 1 c ∗ Crd 3 c ∗ OutSt (RES inp c) c 0)
    ⊢ iprop(know' inp K ∗ owesX c (oweCel 3 c 1) ∗ wait' inp 1 c 1 ∗ scr3 c ∗ GtSt c
      ∗ OutSt (RES inp c) c 0 ∗ wait' inp 0 c 1 ∗ Pos 2 c ∗ Pos 3 c ∗ Crd 3 c ∗ partP c (sums (inp c)) ∗ own' inp c ∗ Ins c (inp c)) := by
  iintro ⟨Hk, HS, HP, HE, HG, HI, H3, P0, P1, P2, P3, C1, C3, HO⟩
  ihave HS := (exit_scatter (TT inp) c) $$ HS
  icases HS with ⟨Hw, C0⟩
  isplitl [Hk]; · iexact Hk
  isplitl [Hw]; · iexact Hw
  isplitl [C1 P1]
  · iapply (enter_wait (TT inp) (AA inp) 1 c)
    isplitl [C1]; · iexact C1
    iexact P1
  isplitl [H3]; · iexact H3
  isplitl [HG]; · iexact HG
  isplitl [HO]; · iexact HO
  isplitl [C0 P0]
  · iapply (enter_wait (TT inp) (AA inp) 0 c)
    isplitl [C0]; · iexact C0
    iexact P0
  isplitl [P2]; · iexact P2
  isplitl [P3]; · iexact P3
  isplitl [C3]; · iexact C3
  isplitl [HP]; · iexact HP
  isplitl [HE]; · iexact HE
  iexact HI

theorem to_out (c : Dev nD) :
    iprop(know' inp K ∗ GatSt (AA inp) c 16 ∗ wait' inp 1 c 16
      ∗ OutSt (RES inp c) c 1 ∗ wait' inp 0 c 1 ∗ Pos 2 c ∗ Pos 3 c ∗ Crd 3 c ∗ partP c (sums (inp c)) ∗ own' inp c ∗ Ins c (inp c))
    ⊢ iprop(know' inp K ∗ owesX c 0 ∗ wait' inp 3 c 1 ∗ OutSt (RES inp c) c 1 ∗ wait' inp 0 c 1 ∗ wait' inp 2 c 1
      ∗ wait' inp 1 c 16 ∗ partP c (sums (inp c)) ∗ own' inp c ∗ Ins c (inp c)) := by
  iintro ⟨Hk, HG, W1, HO, W0, P2, P3, C3, HP, HE, HI⟩
  ihave HG := (exit_gather (AA inp) c) $$ HG
  icases HG with ⟨Hw, C2⟩
  isplitl [Hk]; · iexact Hk
  isplitl [Hw]; · iexact Hw
  isplitl [C3 P3]
  · iapply (enter_wait (TT inp) (AA inp) 3 c)
    isplitl [C3]; · iexact C3
    iexact P3
  isplitl [HO]; · iexact HO
  isplitl [W0]; · iexact W0
  isplitl [C2 P2]
  · iapply (enter_wait (TT inp) (AA inp) 2 c)
    isplitl [C2]; · iexact C2
    iexact P2
  isplitl [W1]; · iexact W1
  isplitl [HP]; · iexact HP
  isplitl [HE]; · iexact HE
  iexact HI

set_option maxHeartbeats 2000000 in
/-- Everything but the last two waits. -/
theorem sound_parts (c : Dev nD) {Q : Dev nD → sProp 𝕄}
    (h : iprop(know' inp K ∗ owesX c 0 ∗ wait' inp 0 c 15 ∗ wait' inp 2 c 15 ∗ wait' inp 3 c 16 ∗ OutSt (RES inp c) c 16
      ∗ wait' inp 1 c 16 ∗ partP c (sums (inp c)) ∗ own' inp c ∗ Ins c (inp c)) ⊢ Q c) :
    BodyIn inp K c ⊢ WP c (bufs (k0_part45 (F := F))) Q := by
  unfold bufs
  rw [k0_part45_eq_skeleton]; unfold k0_part45_skel BodyIn
  refine WP_bind (part1 c  fun w => ?_)
  refine WP_bind (part2 c _ _ _ ?_)
  refine WP_bind (part3 c _ _ _ _ _ ?_)
  refine WP_bind (part4 c _ _ _ ?_)
  refine WP_bind (part5 c _ _ _ _ ?_)
  refine WP_bind (part6 c _ _ _ _ _ fun _ => ?_)
  refine WP_bind (part7 c _ _ _ _ (sums_lo inp c) (sent_lo inp c) ?_)
  refine WP_bind (part8 c _ _ _ _ ?_)
  refine WP_bind (part9 c _ _ _ _ ?_)
  refine WP_bind (part10 c _ _ _ _ ?_)
  refine WP_bind (part11 c _ _ _ ?_)
  refine WP_bind (part12 c _ _ _ _ ?_)
  refine (to_signal inp K c).trans ?_
  refine WP_bind (part13 (TT inp) (AA inp) K c _ _ _ (sums_hi inp c) (sent_hi inp c) fun _ => ?_)
  refine WP_bind (part14 (TT inp) (AA inp) K c _ _ fun _ => ?_)
  refine (to_scatter inp K c).trans ?_
  refine WP_bind (part15 (TT inp) (AA inp) K c _ _ fun _ _ => ?_)
  refine WP_bind (part16 (TT inp) (AA inp) K c _ fun _ _ _ => ?_)
  refine WP_bind (part17 (TT inp) (AA inp) K c _ fun _ _ _ _ _ => ?_)
  refine WP_bind (part18 (TT inp) (AA inp) K c _ _ _ fun _ _ _ => ?_)
  refine WP_bind (part19 (TT inp) (AA inp) K c _ _ fun _ _ => ?_)
  refine (to_part inp K c).trans ?_
  refine WP_bind (part20 (TT inp) (AA inp) K c _ _ fun _ _ => ?_)
  refine (to_sum inp K c).trans ?_
  refine WP_bind (part21 (TT inp) (AA inp) K c _ _ _ ?_)
  refine WP_bind (part22 (TT inp) (AA inp) K c _ _ _ ?_)
  refine WP_bind (part23 (TT inp) (AA inp) K c _ _ _ _ ?_)
  refine WP_bind (part24 (TT inp) (AA inp) K c _ _ _ ?_)
  refine WP_bind (part25 (TT inp) (AA inp) K c _ _ _ _ _ ?_)
  refine WP_bind (part26 (TT inp) (AA inp) K c _ _ _ ?_)
  refine WP_bind (part27 (TT inp) (AA inp) K c _ _ rfl fun _ _ _ => ?_)
  refine WP_bind (part28 (TT inp) (AA inp) K c _ fun _ _ _ => ?_)
  refine WP_bind (part29 (TT inp) (AA inp) K c _ fun _ _ _ _ => ?_)
  refine WP_bind (part30 (TT inp) (AA inp) K c _ _ fun _ _ _ => ?_)
  refine WP_bind (part31 (TT inp) (AA inp) K (rdF inp c) c _ _ fun _ _ => ?_)
  refine (to_out inp K c).trans ?_
  refine WP_bind (part32 (TT inp) (AA inp) K (rdF inp c) c _ _ _ ?_)
  refine WP_bind (part33 (TT inp) (AA inp) K (rdF inp c) c _ _ _ ?_)
  refine WP_bind (part34 (TT inp) (AA inp) K (rdF inp c) c _ _ _ ?_)
  refine WP_bind (part35 (TT inp) (AA inp) K (rdF inp c) c _ _ _ ?_)
  refine WP_bind (part36 (TT inp) (AA inp) K (rdF inp c) c _ _ _ ?_)
  refine WP_bind (part37 (TT inp) (AA inp) K (rdF inp c) c _ _ _ ?_)
  refine WP_bind (part38 (TT inp) (AA inp) K (rdF inp c) c _ _ _ fun _ => ?_)
  refine WP_bind (part39 (TT inp) (AA inp) K (rdF inp c) c _ ?_)
  refine WP_bind (part40 (TT inp) (AA inp) K c ?_)
  refine WP_bind (part41 (TT inp) (AA inp) K c ?_)
  refine WP_bind (part42 (TT inp) (AA inp) K c ?_)
  refine WP_bind (part43 (TT inp) (AA inp) K c ?_)
  refine WP_bind (part44 (TT inp) (AA inp) K c ?_)
  simp only [Prog.lift, Prog.bind_op, Prog.bind_ret, Prog.pure_eq_ret]
  refine wait_chk (TT inp) (AA inp) K ?_
  exact WP_ret h

theorem sound_body (c : Dev nD) {Q : PUnit → sProp 𝕄} (h : BodyOut inp K c ⊢ Q ⟨⟩) :
    BodyIn inp K c ⊢ WP c (bufs (cc0_body (F := F))) Q := by
  unfold bufs
  rw [cc0_body_eq_skeleton]; unfold cc0_body_skel
  refine WP_bind (sound_parts inp K c ?_)
  simp only [Prog.lift, Prog.bind_op, Prog.bind_ret, Prog.pure_eq_ret]
  refine wait_stg (TT inp) (AA inp) K ?_
  refine wait_chk (TT inp) (AA inp) K ?_
  exact WP_ret h

end

end Cert.KernelIdeal.Xch
-- ==== Proof.KernelIdeal.Finish.lean ====
/-
  How a device's body ends: its semaphores are closed at zero and its buffers are whole again.
-/
module

public import proofs.«01_k».proof.Proof.KernelIdeal.Body

@[expose] public section

noncomputable section

namespace Cert.KernelIdeal.Xch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sixteen semaphores of four arrays -/

omit [FloatOps F] in
/-- Number 0 apart from the other fifteen. -/
theorem row_split (Φ : ℕ → sProp 𝕄) : (bigSep Finset.univ fun o : Fin 16 => Φ o.val) = iprop(Φ 0 ∗ bigSep (Finset.Ico 1 16) Φ) := by
  have e : (Finset.univ : Finset (Fin 16)).map Fin.valEmbedding = Finset.Ico 0 16 := by decide +kernel
  rw [← bigSep_Ico_succ_bot (a := 0) (b := 16) (by decide) Φ, ← e, bigSep_map]; rfl

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem grid_split (Φ : ℕ → ℕ → sProp 𝕄) : (bigSep Finset.univ fun q : Fin 4 × Fin 16 => Φ q.1.val q.2.val)
    = iprop((Φ 0 0 ∗ bigSep (Finset.Ico 1 16) (Φ 0)) ∗ (Φ 1 0 ∗ bigSep (Finset.Ico 1 16) (Φ 1))
      ∗ (Φ 2 0 ∗ bigSep (Finset.Ico 1 16) (Φ 2)) ∗ (Φ 3 0 ∗ bigSep (Finset.Ico 1 16) (Φ 3))) := by
  rw [bigSep_univ_prod, bigSep_congr (s := Finset.univ) (fun (a : Fin 4) _ => row_split (F := F) (Φ a.val)), bigSep_fin4]; rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Device `c` as the one to wait on a copy semaphore that nothing raises. -/
abbrev At0 (a : ℕ) (c : Dev nD) : sProp 𝕄 := atPos ER (cel a c 0) 0 ∅ 0

section Close
variable (T : Dev nD → Slots F .bf16) (A : Dev nD → Chunk F .bf16) (K : CI → ℕ)

omit [FloatOps F] in
theorem close_cel (c : Dev nD) (q : Fin 4 × Fin 16) :
    iprop(know T A K ∗ atPos ER (cel q.1.val c q.2.val) (if q.2.val = 0 then 0 else 1) ∅ 0) ⊢ (|={Set.univ}=> semVal (cel q.1.val c q.2.val) 0 : sProp 𝕄) := by
  iintro ⟨Hk, Hat⟩
  ihave Hi := (know_cel T A K q.1.isLt q.2.isLt c) $$ Hk
  icases Hi with ⟨Hi, -⟩
  iapply (Rounds.cell_close ER (xRd T A) (Set.mem_univ (K (c, .inl q))) (fun h => h) (duties_later' T A c q.1.isLt q.2.isLt))
  isplitl [Hi]; · iexact Hi
  iexact Hat

omit [FloatOps F] in
theorem close_bar (c : Dev nD) : iprop(know T A K ∗ atPos ER (barCell c) 1 ∅ 0) ⊢ (|={Set.univ}=> semVal (barCell c) 0 : sProp 𝕄) := by
  iintro ⟨Hk, Hat⟩
  ihave Hi := (know_bar T A K c) $$ Hk
  icases Hi with ⟨Hi, -⟩
  iapply (Rounds.cell_close ER (xRd T A) (Set.mem_univ (K (c, .inr ()))) (fun h => h) (R := 1) (duties_later T A (barCell c)))
  isplitl [Hi]; · iexact Hi
  iexact Hat

omit [FloatOps F] in
theorem row_at (a : ℕ) (c : Dev nD) : (bigSep (Finset.Ico 1 16) fun o => (atPos ER (cel a c o) 1 ∅ 0 : sProp 𝕄))
    = bigSep (Finset.Ico 1 16) fun o => atPos ER (cel a c o) (if o = 0 then 0 else 1) ∅ 0 :=
  bigSep_congr fun o ho => by rw [if_neg (fun h => by subst h; exact absurd (Finset.mem_Ico.mp ho).1 (by decide))]

omit [FloatOps F] in
/-- All the copy semaphores of device `c` close at zero. -/
theorem close_all (c : Dev nD) :
    iprop(know T A K ∗ (At0 0 c ∗ At0 1 c ∗ At0 2 c ∗ At0 3 c)
      ∗ (bigSep (Finset.Ico 1 16) fun o => atPos ER (cel 0 c o) 1 ∅ 0) ∗ (bigSep (Finset.Ico 1 16) fun o => atPos ER (cel 1 c o) 1 ∅ 0)
      ∗ (bigSep (Finset.Ico 1 16) fun o => atPos ER (cel 2 c o) 1 ∅ 0) ∗ (bigSep (Finset.Ico 1 16) fun o => atPos ER (cel 3 c o) 1 ∅ 0))
    ⊢ (|={Set.univ}=> bigSep Finset.univ fun q : Fin 4 × Fin 16 => semVal (cel q.1.val c q.2.val) 0 : sProp 𝕄) := by
  refine BIBase.Entails.trans ?_ ((bigSep_with_persistent (R := know T A K) fun q _ => close_cel T A K c q).trans (bigSep_fupd _ _))
  rw [grid_split (F := F) (fun a o => atPos ER (cel a c o) (if o = 0 then 0 else 1) ∅ 0)]
  simp only [row_at]
  iintro ⟨Hk, ⟨Z0, Z1, Z2, Z3⟩, H0, H1, H2, H3⟩
  isplitl [Hk]; · iexact Hk
  isplitl [Z0 H0]
  · isplitl [Z0]; · iexact Z0
    iexact H0
  isplitl [Z1 H1]
  · isplitl [Z1]; · iexact Z1
    iexact H1
  isplitl [Z2 H2]
  · isplitl [Z2]; · iexact Z2
    iexact H2
  isplitl [Z3]; · iexact Z3
  iexact H3

end Close

section
variable (inp : Dev nD → Inp F) (K : CI → ℕ)

/-- What the body of device `c` has no use for: slot 0 of the landing buffers, and the semaphores number 0. -/
def Idle (c : Dev nD) : sProp 𝕄 :=
  iprop((∃ f, rcvP (F := F) c 0 f) ∗ (∃ f, gatP (F := F) c 0 f) ∗ (At0 0 c ∗ At0 1 c ∗ At0 2 c ∗ At0 3 c))

/-- The kernel's buffers, whatever they hold. -/
def Scr (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- When the point is done: the buffers, and every semaphore at zero. -/
def Φ₁ (c : Dev nD) : sProp 𝕄 :=
  iprop(Scr (F := F) c ∗ (bigSep Finset.univ fun q : Fin 4 × Fin 16 => semVal (cel q.1.val c q.2.val) 0) ∗ semVal (barCell c) 0)

theorem finish (c : Dev nD) : iprop(BodyOut inp K c ∗ Idle (F := F) c)
    ⊢ |={Set.univ}=> iprop(Φ₁ (F := F) c ∗ owesX c 0 ∗ Ins c (inp c) ∗ (((c : Thread nD τ).loc cc0_stg5_0) ↦{fullShare} RES inp c)) := by
  unfold BodyOut Idle Φ₁ Scr
  iintro ⟨⟨#Hk, HO, W0, W2, W3, Hout, W1, Hp, ⟨HB, Hs⟩, HI⟩, Hr, Hg, HZ⟩
  ihave W0 := (exit_wait (TT inp) (AA inp) 0 c) $$ W0
  icases W0 with ⟨P0, A0⟩
  ihave W1 := (exit_wait (TT inp) (AA inp) 1 c) $$ W1
  icases W1 with ⟨P1, A1⟩
  ihave W2 := (exit_wait (TT inp) (AA inp) 2 c) $$ W2
  icases W2 with ⟨P2, A2⟩
  ihave W3 := (exit_wait (TT inp) (AA inp) 3 c) $$ W3
  icases W3 with ⟨P3, A3⟩
  imod (close_all (TT inp) (AA inp) K c) $$ [HZ A0 A1 A2 A3] with Hz
  · isplitr; · iexact Hk
    isplitl [HZ]; · iexact HZ
    isplitl [A0]; · iexact A0
    isplitl [A1]; · iexact A1
    isplitl [A2]; · iexact A2
    iexact A3
  imod (close_bar (TT inp) (AA inp) K c) $$ [HB] with Hb
  · isplitr; · iexact Hk
    iexact HB
  imodintro
  isplitl [Hs P0 Hr P1 P2 Hg P3 Hp Hz Hb]
  · isplitl [Hs P0 Hr P1 P2 Hg P3 Hp]
    · isplitl [Hp]; · unfold partP; iexists _; iexact Hp
      isplitl [Hs P0]
      · iexists (TT inp c)
        iapply (Entails.of_eq (stg_split c (TT inp c)).symm)
        isplitl [Hs]; · iexact Hs
        iexact P0
      isplitl [Hr P1]
      · iapply (rcv_join c (landA (TT inp) c))
        isplitl [Hr]; · iexact Hr
        iexact P1
      isplitl [P2]
      · iexists (AA inp c)
        iapply (Entails.of_eq (Transfers.pointsTo_deal (Finset.Ico 1 16) (by decide) fullShare).symm)
        iexact P2
      iapply (gat_join c (landB (AA inp) c))
      isplitl [Hg]; · iexact Hg
      iexact P3
    isplitl [Hz]; · iexact Hz
    iexact Hb
  isplitl [HO]; · iexact HO
  isplitl [HI]; · iexact HI
  iapply (out_full (AA inp) (rdF inp c) c)
  iexact Hout

/-- The body of device `c`, from what it holds at its start to what it holds at its end. -/
theorem sound_point (c : Dev nD) {Q : PUnit → sProp 𝕄}
    (h : iprop(Φ₁ (F := F) c ∗ owesX c 0 ∗ Ins c (inp c) ∗ (((c : Thread nD τ).loc cc0_stg5_0) ↦{fullShare} RES inp c)) ⊢ Q ⟨⟩) :
    iprop(BodyIn inp K c ∗ Idle (F := F) c) ⊢ WP c (bufs (cc0_body (F := F))) Q := by
  refine (sep_mono_left (sound_body inp K c (Q := fun _ => BodyOut inp K c) .rfl)).trans ?_
  unfold WP
  refine (wp_frame_r _ _ _).trans ((wp_mono _ _ _ fun _ => ?_).trans (wp_fupd _ _ _ _ _))
  exact (finish inp K c).trans (BI.fupd_mono h)

end

end Cert.KernelIdeal.Xch
-- ==== Proof.KernelIdeal.Ghost.lean ====
/-
  The bookkeeping the launch starts from: every semaphore's invariant, the tokens of all raises and who holds them, and the
  credit each device is launched with.
-/
module

public import proofs.«01_k».proof.Proof.KernelIdeal.Finish
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Xch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

/-- The kernel's own semaphores. -/
def osem (q : Fin 4 × Fin 16) : SemLoc sig := .dma (ds q.1.val q.2.val)

set_option maxRecDepth 8000 in
theorem ownSemFacts : Pipeline.OwnSemFacts cfg0.spec osem := by decide +kernel

theorem cel_inj {a o a' o' : ℕ} {c c' : Dev nD} (ha : a < 4) (ho : o < 16) (ha' : a' < 4) (ho' : o' < 16) (h : cel a c o = cel a' c' o') :
    c = c' ∧ a = a' ∧ o = o' := by
  have h1 : c = c' := congrArg (fun g : GSem nD τ sig => g.1.1) h
  have h2 : (SemLoc.dma (ds a o) : SemLoc sig) = .dma (ds a' o') := congrArg Prod.snd h
  have h3 : ds a o = ds a' o' := SemLoc.dma.inj h2
  exact ⟨h1, ds_inj ha ha' ho ho' h3⟩
theorem bar_inj {c c' : Dev nD} (h : barCell c = barCell c') : c = c' := congrArg (fun g : GSem nD τ sig => g.1.1) h
theorem cel_ne_bar {a o : ℕ} {c c' : Dev nD} : cel a c o ≠ barCell c' := fun h => dma_ne_bar _ (congrArg Prod.snd h)

theorem kcell_injective : Function.Injective kcell := by
  rintro ⟨c, q | u⟩ ⟨c', q' | u'⟩ h
  · obtain ⟨h1, h2, h3⟩ := cel_inj q.1.isLt q.2.isLt q'.1.isLt q'.2.isLt h
    have e : q = q' := Prod.ext (Fin.ext h2) (Fin.ext h3)
    subst h1; subst e; rfl
  · exact absurd h cel_ne_bar
  · exact absurd h.symm cel_ne_bar
  · have h1 : c = c' := bar_inj h
    subst h1; rfl

def allCells : Finset (GSem nD τ sig) := Finset.univ.map ⟨kcell, kcell_injective⟩

/-! ## The tokens -/

/-- One token per raise: fifteen at each device's barrier, one at each of its four arrays' semaphores 1 to 15. -/
def tokOf (i : Dev nD × (Fin 5 × Fin 15)) : GSem nD τ sig × ℕ × ℕ :=
  if i.2.1.val = 4 then (barCell i.1, 0, i.2.2.val + 1) else (cel i.2.1.val i.1 (i.2.2.val + 1), 0, 0)

theorem tokOf_injective : Function.Injective tokOf := by
  rintro ⟨c, a, o⟩ ⟨c', a', o'⟩ h
  unfold tokOf at h
  by_cases e : a.val = 4 <;> by_cases e' : a'.val = 4
  · rw [if_pos e, if_pos e'] at h
    have h1 : c = c' := bar_inj (congrArg Prod.fst h)
    have h2 : o.val + 1 = o'.val + 1 := congrArg (fun x : GSem nD τ sig × ℕ × ℕ => x.2.2) h
    have h3 : a = a' := Fin.ext (e.trans e'.symm)
    have h4 : o = o' := Fin.ext (by omega)
    subst h1; subst h3; subst h4; rfl
  · rw [if_pos e, if_neg e'] at h; exact absurd (congrArg Prod.fst h).symm cel_ne_bar
  · rw [if_neg e, if_pos e'] at h; exact absurd (congrArg Prod.fst h) cel_ne_bar
  · rw [if_neg e, if_neg e'] at h
    have := a.isLt
    have := a'.isLt
    have := o.isLt
    have := o'.isLt
    obtain ⟨h1, h2, h3⟩ := cel_inj (by dsimp only; omega) (by dsimp only; omega) (by dsimp only; omega) (by dsimp only; omega) (congrArg Prod.fst h)
    have h4 : a = a' := Fin.ext h2
    have h5 : o = o' := Fin.ext (by dsimp only at h3; omega)
    subst h1; subst h4; subst h5; rfl

def allToks : Finset (GSem nD τ sig × ℕ × ℕ) := Finset.univ.map ⟨tokOf, tokOf_injective⟩

def u₀ : UU :=
  (initOf (Pipeline.cells cfgs cellOf_inj) (Pipeline.launchToks cfgs cellOf_inj), initOf allCells allToks)

omit [FloatOps F] in
theorem fin15 (Φ : ℕ → sProp 𝕄) : (bigSep Finset.univ fun o : Fin 15 => Φ (o.val + 1)) = bigSep (Finset.Ico 1 16) Φ := by
  have e : (Finset.univ : Finset (Fin 15)).map (Fin.valEmbedding.trans (addRightEmbedding 1)) = Finset.Ico 1 16 := by decide +kernel
  rw [← e, bigSep_map]; rfl
omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

/-- The tokens of the raises of one array's semaphores, and of the barrier. -/
abbrev celTok (a : ℕ) (c : Dev nD) (o : ℕ) : sProp 𝕄 := dutyTok ER (cel a c o) 0 0
abbrev barTok (c : Dev nD) (o : ℕ) : sProp 𝕄 := dutyTok ER (barCell c) 0 o

/-- The tokens of the raises of device `c`'s own semaphores. -/
def toks (c : Dev nD) : sProp 𝕄 :=
  iprop(bigSep (Finset.Ico 1 16) (celTok (F := F) 0 c) ∗ bigSep (Finset.Ico 1 16) (celTok (F := F) 1 c) ∗ bigSep (Finset.Ico 1 16) (celTok (F := F) 2 c)
    ∗ bigSep (Finset.Ico 1 16) (celTok (F := F) 3 c) ∗ bigSep (Finset.Ico 1 16) (barTok (F := F) c))

omit [FloatOps F] in
theorem toks_eq : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  rw [bigSep_univ_prod, bigSep_fin5]
  unfold toks
  rw [← fin15, ← fin15, ← fin15, ← fin15, ← fin15]
  rfl

/-- The tokens device `c` raises with. -/
def payToks (c : Dev nD) : sProp 𝕄 :=
  iprop((bigSep (Finset.Ico 1 16) fun o => barTok (F := F) (pr c o) o) ∗ ScTok (F := F) c ∗ GtTok (F := F) c)

omit [FloatOps F] in
theorem exchange (Φ : Dev nD → Fin 15 → sProp 𝕄) :
    (bigSep Finset.univ fun c => bigSep Finset.univ fun o => Φ c o) = bigSep Finset.univ fun o => bigSep Finset.univ fun c => Φ c o := by
  rw [← bigSep_univ_prod (fun p : Dev nD × Fin 15 => Φ p.1 p.2), ← bigSep_univ_prod (fun p : Fin 15 × Dev nD => Φ p.2 p.1)]
  exact bigSep_univ_equiv (Equiv.prodComm _ _) (fun p : Dev nD × Fin 15 => Φ p.1 p.2)

omit [FloatOps F] in
/-- Each device's token number `o` moves to that device's peer number `o`. -/
theorem around (f : Dev nD → ℕ → sProp 𝕄) : (bigSep Finset.univ fun c : Dev nD => bigSep (Finset.Ico 1 16) (f c))
    = bigSep Finset.univ fun c : Dev nD => bigSep (Finset.Ico 1 16) fun o => f (pr c o) o := by
  simp only [← fin15]
  rw [exchange fun (c : Dev nD) (o : Fin 15) => f c (o.val + 1), exchange fun (c : Dev nD) (o : Fin 15) => f (pr c (o.val + 1)) (o.val + 1)]
  exact bigSep_congr fun o _ => bigSep_univ_equiv (swap ⟨o.val + 1, by have := o.isLt; omega⟩) (fun c : Dev nD => f c (o.val + 1))

omit [FloatOps F] in
theorem toks_around : (bigSep Finset.univ fun c : Dev nD => (toks c : sProp 𝕄)) ⊢ bigSep Finset.univ fun c : Dev nD => payToks c := by
  unfold toks payToks ScTok GtTok
  simp only [bigSep_sep']
  rw [around (celTok (F := F) 1), around (celTok (F := F) 3), around (barTok (F := F))]
  iintro ⟨H0, H1, H2, H3, HB⟩
  isplitl [HB]; · iexact HB
  isplitl [H0 H1]
  · isplitl [H0]; · iexact H0
    iexact H1
  isplitl [H2]; · iexact H2
  iexact H3

/-! ## From the launch to the invariants -/

section
variable (T : Dev nD → Slots F .bf16) (A : Dev nD → Chunk F .bf16)

/-- What the launch gives to device `c`. -/
def G (c : Dev nD) : sProp 𝕄 :=
  iprop((bigSep Finset.univ fun k : (Fin 4 × Fin 16) ⊕ Unit => roundState ER (xRd T A) (kcell (c, k)) 0)
    ∗ (bigSep Finset.univ fun k : (Fin 4 × Fin 16) ⊕ Unit => iprop(atPos ER (kcell (c, k)) 0 ∅ 0 ∗ reached ER (kcell (c, k)) 0)) ∗ toks (F := F) c)

/-- What every device may rely on, but for the levels. -/
def records (K : CI → ℕ) : sProp 𝕄 := bigSep Finset.univ (fun i : CI => iprop(cellInv ER (xRd T A) (K i) (kcell i) ∗ reached ER (kcell i) 0))

instance records_persistent (K : CI → ℕ) : BI.Persistent (records (F := F) T A K) := by unfold records; infer_instance

/-- What device `c` alone holds. -/
def linear (c : Dev nD) : sProp 𝕄 :=
  iprop((bigSep Finset.univ fun k : (Fin 4 × Fin 16) ⊕ Unit => atPos ER (kcell (c, k)) 0 ∅ 0) ∗ payToks (F := F) c)

def G' (c : Dev nD) : sProp 𝕄 := iprop(∃ K, records (F := F) T A K ∗ linear (F := F) c)

omit [FloatOps F] in
theorem fund_cells : BI.own (ER (initOf allCells allToks)) ⊢ (|==> bigSep Finset.univ (G T A) : sProp 𝕄) := by
  have hX (Φ : GSem nD τ sig → sProp 𝕄) : bigSep allCells Φ = bigSep Finset.univ fun c : Dev nD => bigSep Finset.univ fun k : (Fin 4 × Fin 16) ⊕ Unit => Φ (kcell (c, k)) := by
    unfold allCells; rw [bigSep_map, bigSep_univ_prod]; rfl
  iintro HX
  imod (Rounds.fund ER (xRd T A) allCells allToks) $$ HX with ⟨Hst, Hr, Hat, Htok⟩
  imodintro
  ihave Hst' := (Entails.of_eq (hX fun g => roundState ER (xRd T A) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq (F := F))) $$ Htok
  unfold G; simp only [bigSep_sep']
  isplitl [Hst']; · iexact Hst'
  isplitl [Hat' Hr']
  · isplitl [Hat'] <;> iassumption
  iexact Htok'

omit [FloatOps F] in
/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : (Fin 4 × Fin 16) ⊕ Unit => semVal (kcell (c, k)) 0 : sProp 𝕄) := by
  rw [unscopedSems0_eq, bigSep_univ_sum,
    show (bigSep Finset.univ fun b : Unit => (semVal (kcell (c, .inr b)) 0 : sProp 𝕄)) = semVal (barCell c) 0 from bigSep_singleton ..]
  exact .rfl

omit [FloatOps F] in
theorem core_alloc (c : Dev nD) :
    iprop(Pipeline.ownSems0 (Ix := Unit) (Name := ℕ) (U := UU) (Lvl := ℕ) (Val := Elt F) (τ := τ) osem c ∗ unscopedSems0 c ∗ G T A c)
      ⊢ |={Set.univ}=> iprop((bigSep Finset.univ fun k => iprop(∃ κ : ℕ, cellInv ER (xRd T A) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : (Fin 4 × Fin 16) ⊕ Unit => semVal (kcell (c, k)) 0) ∗ bigSep Finset.univ fun k : (Fin 4 × Fin 16) ⊕ Unit => roundState ER (xRd T A) (kcell (c, k)) 0)
      ⊢ (|={Set.univ}=> bigSep Finset.univ fun k => iprop(∃ κ : ℕ, cellInv ER (xRd T A) κ (kcell (c, k))) : sProp 𝕄) from by
        rw [← bigSep_sep']
        exact (bigSep_mono fun k _ => (Rounds.body_intro ER (xRd T A) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem regroup :
    (bigSep Finset.univ fun c : Dev nD => iprop((bigSep Finset.univ fun k => iprop(∃ κ : ℕ, cellInv ER (xRd T A) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' T A) := by
  rw [bigSep_sep', bigSep_sep', ← bigSep_univ_prod (fun i : CI => iprop(∃ κ : ℕ, cellInv ER (xRd T A) κ (kcell i))),
    bigSep_congr (s := Finset.univ) (fun (c : Dev nD) _ => bigSep_sep' Finset.univ (fun k : (Fin 4 × Fin 16) ⊕ Unit => (atPos ER (kcell (c, k)) 0 ∅ 0 : sProp 𝕄)) (fun k => reached ER (kcell (c, k)) 0)),
    bigSep_sep', ← bigSep_univ_prod (fun i : CI => (reached ER (kcell i) 0 : sProp 𝕄))]
  iintro ⟨HI, ⟨Hat, HR⟩, Htok⟩
  ihave HK := (BI.bigSep_exists_pi Finset.univ (fun (i : CI) (κ : ℕ) => (cellInv ER (xRd T A) κ (kcell i) : sProp 𝕄))) $$ HI
  icases HK with ⟨%K, HI⟩
  ihave Htk := (toks_around (F := F)) $$ Htok
  iapply (bigSep_with_persistent (R := records T A K) (Φ := fun c => linear (F := F) c) fun c _ => by
    unfold G'; iintro H; iexists K; iexact H)
  isplitl [HI HR]
  · unfold records
    rw [bigSep_sep']
    isplitl [HI]; · iexact HI
    iexact HR
  · unfold linear
    rw [bigSep_sep']
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G T A c) : sProp 𝕄)
    ⊢ |={Set.univ}=> bigSep Finset.univ (G' T A) :=
  ((bigSep_mono fun c _ => core_alloc T A c).trans (bigSep_fupd _ _)).trans (BI.fupd_mono (regroup T A))

end

/-! ## The credit at launch -/

theorem sum_oweCel (a : ℕ) (g : GSem nD τ sig) :
    (∑ d : Dev nD, oweCel a d 1 g ()) = ∑ o ∈ Finset.Ico 1 16, ∑ d : Dev nD, (tallyAt (cel a d o) () N : CellTallies nD τ sig Unit) g () := by
  simp only [oweCel, Finset.sum_apply, Finsupp.finset_sum_apply]
  rw [Finset.sum_comm]
  refine Finset.sum_congr rfl fun o ho => ?_
  exact Equiv.sum_comp (swap ⟨o, (Finset.mem_Ico.mp ho).2⟩) (fun d : Dev nD => (tallyAt (cel a d o) () N : CellTallies nD τ sig Unit) g ())

theorem sum_oweBar (g : GSem nD τ sig) :
    (∑ d : Dev nD, oweBar d 1 g ()) = ∑ o ∈ Finset.Ico 1 16, ∑ d : Dev nD, (tallyAt (barCell d) () 1 : CellTallies nD τ sig Unit) g () := by
  simp only [oweBar, Finset.sum_apply, Finsupp.finset_sum_apply]
  rw [Finset.sum_comm]
  refine Finset.sum_congr rfl fun o ho => ?_
  exact Equiv.sum_comp (swap ⟨o, (Finset.mem_Ico.mp ho).2⟩) (fun d : Dev nD => (tallyAt (barCell d) () 1 : CellTallies nD τ sig Unit) g ())

theorem cel_at_cel {a a' o' : ℕ} (c : Dev nD) (ha : a < 4) (ha' : a' < 4) (h1 : 1 ≤ o') (ho' : o' < 16) :
    (∑ d : Dev nD, oweCel a d 1 (cel a' c o') ()) = if a = a' then N else 0 := by
  rw [sum_oweCel]
  by_cases h : a = a'
  · subst h
    rw [if_pos rfl, Finset.sum_eq_single_of_mem o' (Finset.mem_Ico.mpr ⟨h1, ho'⟩), Finset.sum_eq_single_of_mem c (Finset.mem_univ _), tallyAt_apply, if_pos ⟨rfl, rfl⟩]
    · intro d _ hd
      rw [tallyAt_apply, if_neg fun e => hd (cel_inj ha ho' ha ho' e.1).1.symm]
    · intro o ho hne
      refine Finset.sum_eq_zero fun d _ => ?_
      rw [tallyAt_apply, if_neg fun e => hne (cel_inj ha ho' ha (Finset.mem_Ico.mp ho).2 e.1).2.2.symm]
  · rw [if_neg h]
    refine Finset.sum_eq_zero fun o ho => Finset.sum_eq_zero fun d _ => ?_
    rw [tallyAt_apply, if_neg fun e => h (cel_inj ha' ho' ha (Finset.mem_Ico.mp ho).2 e.1).2.1.symm]

theorem cel_at_bar (a : ℕ) (c : Dev nD) : (∑ d : Dev nD, oweCel a d 1 (barCell c) ()) = 0 := by
  rw [sum_oweCel]
  refine Finset.sum_eq_zero fun o ho => Finset.sum_eq_zero fun d _ => ?_
  rw [tallyAt_apply, if_neg fun e => cel_ne_bar e.1.symm]
theorem bar_at_cel (a o : ℕ) (c : Dev nD) : (∑ d : Dev nD, oweBar d 1 (cel a c o) ()) = 0 := by
  rw [sum_oweBar]
  refine Finset.sum_eq_zero fun o ho => Finset.sum_eq_zero fun d _ => ?_
  rw [tallyAt_apply, if_neg fun e => cel_ne_bar e.1]
theorem bar_at_bar (c : Dev nD) : (∑ d : Dev nD, oweBar d 1 (barCell c) ()) = 15 := by
  rw [sum_oweBar, Finset.sum_congr rfl fun o _ => show (∑ d : Dev nD, (tallyAt (barCell d) () 1 : CellTallies nD τ sig Unit) (barCell c) ()) = 1 from ?_, Finset.sum_const, Nat.card_Ico, smul_eq_mul]
  rw [Finset.sum_eq_single_of_mem c (Finset.mem_univ _), tallyAt_apply, if_pos ⟨rfl, rfl⟩]
  intro d _ hd
  rw [tallyAt_apply, if_neg fun e => hd (bar_inj e.1).symm]

theorem owed_sum (g : GSem nD τ sig) : (∑ d : Dev nD, O₀ d g ()) = ((∑ d : Dev nD, oweCel 3 d 1 g ()) + ∑ d : Dev nD, oweCel 1 d 1 g ()) + ∑ d : Dev nD, oweBar d 1 g () := by
  rw [← Finset.sum_add_distrib, ← Finset.sum_add_distrib]; rfl

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, owed_sum, cel_at_bar, cel_at_bar, bar_at_bar]
theorem launch_cel {a o : ℕ} (c : Dev nD) (ha : a = 1 ∨ a = 3) (h1 : 1 ≤ o) (ho : o < 16) :
    tallyOn (cel a c o) (launchCredit (Pipeline.owing O₀) 0 (cel a c o)) = (tallyAt (cel a c o) () N : CellTallies nD τ sig Unit) := by
  unfold tallyAt; refine congrArg _ (Finsupp.ext fun u => ?_); cases u
  rw [Pipeline.launchCredit_owing, Finsupp.single_eq_same, owed_sum, bar_at_cel]
  rcases ha with rfl | rfl
  · rw [cel_at_cel c (by decide) (by decide) h1 ho, cel_at_cel c (by decide) (by decide) h1 ho]; rfl
  · rw [cel_at_cel c (by decide) (by decide) h1 ho, cel_at_cel c (by decide) (by decide) h1 ho]; rfl

/-- The semaphores of one array, 1 to 15. -/
def rowSems (a : ℕ) (ha : a < 4) : Finset (SemLoc sig) :=
  (Finset.univ : Finset (Fin 15)).map ⟨fun o => .dma (ds a (o.val + 1)), fun o o' h => Fin.ext (by
    have := (ds_inj ha ha (by have := o.isLt; omega) (by have := o'.isLt; omega) (SemLoc.dma.inj h)).2; omega)⟩

theorem rowSems_disjoint : Disjoint (rowSems 1 (by decide)) (rowSems 3 (by decide)) := by
  rw [Finset.disjoint_left]
  intro s h h'
  obtain ⟨o, -, rfl⟩ := Finset.mem_map.mp h
  obtain ⟨o', -, e⟩ := Finset.mem_map.mp h'
  have := (ds_inj (by decide) (by decide) (by have := o'.isLt; omega) (by have := o.isLt; omega) (SemLoc.dma.inj e)).1
  omega

omit [FloatOps F] in
theorem row_creds {a : ℕ} (c : Dev nD) (ha : a < 4) (h : a = 1 ∨ a = 3) :
    (bigSep (rowSems a ha) fun s => (cred (tallyOn ((c.tc : Thread nD τ), s) (launchCredit (Pipeline.owing O₀) 0 ((c.tc : Thread nD τ), s))) : sProp 𝕄)) = Crd a c := by
  unfold rowSems Crd
  rw [bigSep_map, ← fin15]
  exact bigSep_congr fun o _ => congrArg cred (launch_cel c h (by omega) (by have := o.isLt; omega))

omit [FloatOps F] in
theorem creds (c : Dev nD) :
    (Pipeline.launchCred O₀ c : sProp 𝕄) ⊢ iprop(cred (tallyAt (barCell c) () 15) ∗ Crd 1 c ∗ Crd 3 c) := by
  unfold Pipeline.launchCred
  rw [bigSep_univ_at _ (SemLoc.reg barS), launch_bar]
  refine sep_mono_right ?_
  rw [← row_creds c (by decide) (Or.inl rfl), ← row_creds c (by decide) (Or.inr rfl)]
  refine BIBase.Entails.trans ?_ (Entails.of_eq (BI.bigSep_union rowSems_disjoint))
  refine bigSep_subset fun s hs => Finset.mem_erase.mpr ⟨?_, Finset.mem_univ _⟩
  rcases Finset.mem_union.mp hs with h | h <;> (obtain ⟨o, -, rfl⟩ := Finset.mem_map.mp h; exact dma_ne_bar _)

end Cert.KernelIdeal.Xch
-- ==== Proof.KernelIdeal.Launch.lean ====
/-
  The launch: the sixteen devices, from any memory and semaphores at zero, all run to the end; the arguments are as they
  were, and device `c`'s result is `RES` of the arguments.
-/
module

public import proofs.«01_k».proof.Proof.KernelIdeal.Ghost
public import proofs.«01_k».proof.Proof.Gen.KernelIdeal.Points
public import Idealize.ShloMosaic.Lib.Pipeline.CollectiveSegs

@[expose] public section

noncomputable section

namespace Cert.KernelIdeal.Xch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-- Memory `m`, all semaphores at zero. -/
abbrev s₀ (m : (l : Loc nD τ sig) → Buf (Elt F) l) (ρ : Dev nD → PrngReg) : MemSt nD τ sig (Elt F) := ⟨m, fun _ => 0, ρ⟩

variable (m : (l : Loc nD τ sig) → Buf (Elt F) l) (ρ : Dev nD → PrngReg)

/-- Device `c`'s arguments. -/
def inp (c : Dev nD) : Inp F where
  x := m ((c : Thread nD τ).loc main_arg0)
  wq := m ((c : Thread nD τ).loc main_arg1)
  wo := m ((c : Thread nD τ).loc main_arg4)
  k := m ((c : Thread nD τ).loc main_arg2)
  v := m ((c : Thread nD τ).loc main_arg3)

/-- What device `c`'s body starts from. -/
def start (c : Dev nD) : sProp 𝕄 :=
  iprop(G' (TT (inp m)) (AA (inp m)) c ∗ (cred (tallyAt (barCell c) () 15) ∗ Crd 1 c ∗ Crd 3 c) ∗ levAts L lv)

def Φ₀ (c : Dev nD) : sProp 𝕄 := iprop(start m c ∗ Scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m c).x
    | ⟨1, _⟩ => (inp m c).wq
    | ⟨2, _⟩ => (inp m c).wo
    | ⟨3, _⟩ => (inp m c).k
    | ⟨4, _⟩ => (inp m c).v
    | ⟨5, _⟩ => RES (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

def bodyPost (c : Dev nD) : sProp 𝕄 :=
  iprop(Φ₁ (F := F) c ∗ (dats m ρ 0 c).owesAt () t0_0.succ ∗ stg c cc0_stg0_0 (inp m c).x ∗ stg c cc0_stg1_0 (inp m c).wq
    ∗ stg c cc0_stg2_0 (inp m c).wo ∗ stg c cc0_stg3_0 (inp m c).k ∗ stg c cc0_stg4_0 (inp m c).v ∗ stg c cc0_stg5_0 (RES (inp m) c))

omit [FloatOps F] in
theorem at_split (c : Dev nD) : (bigSep Finset.univ fun k : (Fin 4 × Fin 16) ⊕ Unit => (atPos ER (kcell (c, k)) 0 ∅ 0 : sProp 𝕄))
    ⊢ iprop(((At0 0 c ∗ Pos 0 c) ∗ (At0 1 c ∗ Pos 1 c) ∗ (At0 2 c ∗ Pos 2 c) ∗ (At0 3 c ∗ Pos 3 c)) ∗ atPos ER (barCell c) 0 ∅ 0) := by
  unfold Pos
  rw [bigSep_univ_sum, show (bigSep Finset.univ fun b : Unit => (atPos ER (kcell (c, .inr b)) 0 ∅ 0 : sProp 𝕄)) = atPos ER (barCell c) 0 ∅ 0 from bigSep_singleton ..]
  exact Entails.of_eq (congrArg (fun X => iprop(X ∗ atPos ER (barCell c) 0 ∅ 0)) (grid_split (F := F) fun a o => atPos ER (cel a c o) 0 ∅ 0))

omit [FloatOps F] in
theorem slot_any (c : Dev nD) (o : ℕ) (f : Slots F .bf16) : rcvP c o f ⊢ iprop(∃ f, rcvP c o f) := by iintro H; iexists f; iexact H
omit [FloatOps F] in
theorem slots_any (c : Dev nD) (f : Slots F .bf16) :
    (bigSep (Finset.Ico 1 16) fun o => rcvP c o f) ⊢ bigSep (Finset.Ico 1 16) fun o => iprop(∃ f, rcvP (F := F) c o f) :=
  bigSep_mono fun o _ => slot_any c o f
omit [FloatOps F] in
theorem gat_any (c : Dev nD) (o : ℕ) (f : Slots F .bf16) : gatP c o f ⊢ iprop(∃ f, gatP c o f) := by iintro H; iexists f; iexact H
omit [FloatOps F] in
theorem gats_any (c : Dev nD) (f : Slots F .bf16) :
    (bigSep (Finset.Ico 1 16) fun o => gatP c o f) ⊢ bigSep (Finset.Ico 1 16) fun o => iprop(∃ f, gatP (F := F) c o f) :=
  bigSep_mono fun o _ => gat_any c o f

theorem before_0 (c : Dev nD) (d) : (dats m ρ 0 c).before (0 : Fin 6) t0_0 d = (inp m c).x := by
  unfold Dat.before; rw [if_pos (fetch0_0 t0_0)]
  exact Memref.readAt_unit_zero (Elt F) main_arg0 (funext fun a => by fin_cases a <;> rfl) _ _
theorem before_1 (c : Dev nD) (d) : (dats m ρ 0 c).before (1 : Fin 6) t0_0 d = (inp m c).wq := by
  unfold Dat.before; rw [if_pos (fetch0_1 t0_0)]
  exact Memref.readAt_unit_zero (Elt F) main_arg1 (funext fun a => by fin_cases a <;> rfl) _ _
theorem before_2 (c : Dev nD) (d) : (dats m ρ 0 c).before (2 : Fin 6) t0_0 d = (inp m c).wo := by
  unfold Dat.before; rw [if_pos (fetch0_2 t0_0)]
  exact Memref.readAt_unit_zero (Elt F) main_arg4 (funext fun a => by fin_cases a <;> rfl) _ _
theorem before_3 (c : Dev nD) (d) : (dats m ρ 0 c).before (3 : Fin 6) t0_0 d = (inp m c).k := by
  unfold Dat.before; rw [if_pos (fetch0_3 t0_0)]
  exact Memref.readAt_unit_zero (Elt F) main_arg2 (funext fun a => by fin_cases a <;> rfl) _ _
theorem before_4 (c : Dev nD) (d) : (dats m ρ 0 c).before (4 : Fin 6) t0_0 d = (inp m c).v := by
  unfold Dat.before; rw [if_pos (fetch0_4 t0_0)]
  exact Memref.readAt_unit_zero (Elt F) main_arg3 (funext fun a => by fin_cases a <;> rfl) _ _

set_option maxRecDepth 4000 in
/-- What the launch hands over is what the body takes. -/
theorem enter (c : Dev nD) : bodyPre m ρ c ⊢ iprop(∃ K, BodyIn (inp m) K c ∗ Idle (F := F) c) := by
  unfold bodyPre Φ₀ start G' linear payToks Scr
  iintro ⟨⟨⟨⟨%K, Hrec, Hat, Htb, Hts, Htg⟩, ⟨Hcb, Hc1, Hc3⟩, Hlev⟩, ⟨%f0, S0⟩, ⟨%f1, S1⟩, ⟨%f2, S2⟩, S3, ⟨%f4, S4⟩⟩, Ho,
    ⟨%d0, %g0, %hg0, X0⟩, ⟨%d1, %g1, %hg1, X1⟩, ⟨%d2, %g2, %hg2, X2⟩, ⟨%d3, %g3, %hg3, X3⟩, ⟨%d4, %g4, %hg4, X4⟩, ⟨%d5, %g5, %hg5, X5⟩⟩
  rw [before_0] at hg0
  rw [before_1] at hg1
  rw [before_2] at hg2
  rw [before_3] at hg3
  rw [before_4] at hg4
  subst hg0; subst hg1; subst hg2; subst hg3; subst hg4
  unfold Dat.owesAt Pipeline.owesWithin
  icases Ho with ⟨%W, %hW, HO⟩
  rw [show (dats m ρ 0 c).owed t0_0.castSucc = O₀ c from rfl]
  ihave Hat := (at_split (F := F) c) $$ Hat
  icases Hat with ⟨⟨⟨Z0, P0⟩, ⟨Z1, P1⟩, ⟨Z2, P2⟩, ⟨Z3, P3⟩⟩, HB⟩
  ihave S2 := (Entails.of_eq (rcv_split c f2)) $$ S2
  icases S2 with ⟨R0, R⟩
  ihave S4 := (Entails.of_eq (gat_split c f4)) $$ S4
  icases S4 with ⟨G0, G⟩
  iexists K
  unfold BodyIn Idle Ins LoP LoT SigSt owesX BarSt scr3 OutSt know' know Pos
  isplitr [R0 G0 Z0 Z1 Z2 Z3]
  · isplitl [X0 X1 X2 X3 X4]
    · isplitl [X0]; · iexact X0
      isplitl [X1]; · iexact X1
      isplitl [X2]; · iexact X2
      isplitl [X3]; · iexact X3
      iexact X4
    isplitl [S0 S1]
    · isplitl [S0]
      · iexists f0; isplitr; · ipureintro; intro i hi; exact absurd hi (Nat.not_lt_zero _)
        iexact S0
      · iexists f1; isplitr; · ipureintro; intro i hi; exact absurd hi (Nat.not_lt_zero _)
        iexact S1
    isplitl [Hrec Hlev]
    · isplitl [Hrec]; · unfold records; iexact Hrec
      iexact Hlev
    isplitl [HO Htb R G]
    · isplitl [HO]; · iexists W; unfold O₀; iexact HO
      rw [bigSep_sep', bigSep_sep']
      isplitl [Htb]; · iexact Htb
      isplitl [R]; · iapply (slots_any c f2); iexact R
      iapply (gats_any c f4); iexact G
    isplitl [Hcb HB]
    · isplitl [Hcb]; · iexact Hcb
      iexact HB
    isplitl [Hts]; · iexact Hts
    isplitl [Htg]; · iexact Htg
    isplitl [S3]; · iexact S3
    isplitl [P0]; · iexact P0
    isplitl [P1]; · iexact P1
    isplitl [P2]; · iexact P2
    isplitl [P3]; · iexact P3
    isplitl [Hc1]; · iexact Hc1
    isplitl [Hc3]; · iexact Hc3
    iexists g5; isplitr
    · ipureintro; rintro i ⟨o, ho, -⟩; exact absurd ho (Nat.not_lt_zero _)
    iexact X5
  isplitl [R0]; · iexists f2; iexact R0
  isplitl [G0]; · iexists f4; iexact G0
  isplitl [Z0]; · iexact Z0
  isplitl [Z1]; · iexact Z1
  isplitl [Z2]; · iexact Z2
  iexact Z3

/-- What the body leaves is what the launch takes back. -/
theorem leave (c : Dev nD) :
    iprop(Φ₁ (F := F) c ∗ owesX c 0 ∗ Ins c (inp m c) ∗ (((c : Thread nD τ).loc cc0_stg5_0) ↦{fullShare} RES (inp m) c)) ⊢ bodyPost m ρ c := by
  unfold bodyPost Ins owesX Dat.owesAt Pipeline.owesWithin
  rw [show (dats m ρ 0 c).owed t0_0.succ = 0 from rfl]
  iintro ⟨HΦ, ⟨%W, HO⟩, ⟨X0, X1, X2, X3, X4⟩, X5⟩
  isplitl [HΦ]; · iexact HΦ
  isplitl [HO]
  · iexists W
    isplitr; · ipureintro; exact fun _ _ => Or.inl trivial
    iexact HO
  isplitl [X0]
  · iexists _; isplitr; · (ipureintro; rfl)
    iexact X0
  isplitl [X1]
  · iexists _; isplitr; · (ipureintro; rfl)
    iexact X1
  isplitl [X2]
  · iexists _; isplitr; · (ipureintro; rfl)
    iexact X2
  isplitl [X3]
  · iexists _; isplitr; · (ipureintro; rfl)
    iexact X3
  isplitl [X4]
  · iexists _; isplitr; · (ipureintro; rfl)
    iexact X4
  iexists _; isplitr; · (ipureintro; rfl)
  iexact X5

set_option maxRecDepth 20000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ WP c (bufs (cc0_body (F := F))) (fun _ => bodyPost m ρ c)
  iintro H
  ihave H := (enter m ρ c) $$ H
  icases H with ⟨%K, H⟩
  iapply (sound_point (inp m) K c (Q := fun _ => bodyPost m ρ c) (leave m ρ c))
  iexact H

/-! ## The side conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (TT (inp m)) (AA (inp m)) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Scr Pipeline.ownSems0
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

set_option maxRecDepth 40000 in
theorem run_arrays : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (TT (inp m)) (AA (inp m))) (G' := G' (TT (inp m)) (AA (inp m))) (u₀ := u₀)
    (hu₀ := by
      unfold u₀
      iintro Hu
      ihave H := (ownU_pair _ _) $$ Hu
      icases H with ⟨HP, HX⟩
      imod (fund_cells (TT (inp m)) (AA (inp m))) $$ HX with HG
      imodintro
      isplitl [HP] <;> iassumption)
    (hglob := glob (TT (inp m)) (AA (inp m)))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem out_emb (x) : ((cfg0.win (5 : Fin 6)).blk t0_0).view.emb x = x := by
  funext a; refine Fin.ext ?_; fin_cases a <;> exact (Nat.zero_add _).trans (Nat.one_mul _)

theorem finalA_out (c : Dev nD) : finalA m ρ c (5 : Fin 6) = RES (inp m) c := by
  refine (dats m ρ 0 c).arrAt_eq_of_cover (5 : Fin 6) (RES (inp m) c) (fun t _ => ?_) (fun i => ⟨t0_0, flush0_5 t0_0, ?_⟩)
  · rw [fin_N0 t]; funext x
    exact congrArg (RES (inp m) c) (out_emb x).symm
  · have h := ((cfg0.win (5 : Fin 6)).blk t0_0).view.emb_mem_set i
    rwa [out_emb] at h

/-- Every run ends, with the arguments as they were, `RES` as the result of each device, and all semaphores at zero. -/
theorem run_main : θ_run defs (onTc (τ := τ) (main (F := F))) (s₀ m ρ) (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v1) = RES (inp m) c)
    ∧ r.2.sem = fun _ => 0) :=
  (θ_run defs _ _).mono (fun r h => ⟨fun c =>
    ⟨⟨(h.1 c (0 : Fin 6)).trans ((dats m ρ 0 c).arrAt_in (0 : Fin 6) rfl _), (h.1 c (1 : Fin 6)).trans ((dats m ρ 0 c).arrAt_in (1 : Fin 6) rfl _),
      (h.1 c (3 : Fin 6)).trans ((dats m ρ 0 c).arrAt_in (3 : Fin 6) rfl _), (h.1 c (4 : Fin 6)).trans ((dats m ρ 0 c).arrAt_in (4 : Fin 6) rfl _),
      (h.1 c (2 : Fin 6)).trans ((dats m ρ 0 c).arrAt_in (2 : Fin 6) rfl _)⟩,
      (h.1 c (5 : Fin 6)).trans (finalA_out m ρ c)⟩, h.2⟩) (run_arrays m ρ)

end Cert.KernelIdeal.Xch
-- ==== Proof.Value.Head.lean ====
/-
  One head of the attention and its part of the output projection, as the kernel's arithmetic has it, and its entries over the extended reals.
-/
module

public import proofs.«01_k».proof.Proof.KernelIdeal.Vals
public import Idealize.ShloMosaic.Lib.Pointwise

@[expose] public section

set_option maxRecDepth 16384

noncomputable section

namespace Cert.KernelIdeal.Value

open Cert.KernelIdeal Cert.KernelIdeal.Gen Cert.KernelIdeal.Xch

open Idealize.ShloMosaic
open scoped BigOperators

section
variable {F : FTy → Type} [FloatOps F]

/-- One head: the scaled scores of the query columns `qs` against the keys, their softmax against the values, and the product with the head's rows of the output weights. -/
def head (qs : FVec F S128x64 .f32) (k v : Vec F S1x128x1x64 .bf16) (w : Vec F S64x512 .bf16) : FVec F S128x512 .f32 :=
  have qb : FVec F S128x64 .bf16 := truncf .bf16 (mulf qs (broadcast S128x64 (Scalar.ofBits .f32 0x3E000000#32 : F .f32))) bitsLt_bf16_f32
  have kt : FVec F S64x128 .bf16 := transpose S64x128 [1, 0] (shapeCast S128x64 k shapeCasts_S1x128x1x64_S128x64) transposes_S128x64_p1_0_S64x128
  have s : FVec F S128x128 .f32 := matmul dot_S128x64_S64x128_S128x128_1_0_0_1_n_n none qb kt (constant S128x128 .f32 0x00000000#32)
  have mx : FVec F S128x1 .f32 := shapeCast S128x1 (multiReduction .maximumf [1] S128 s 0xFF800000#32 reduces_S128x128_S128 (.inl rfl) rfl) shapeCasts_S128_S128x1
  have p : FVec F S128x128 .f32 := exp (subf s (broadcastTo S128x128 mx broadcasts_S128x1_S128x128))
  have l : FVec F S128x1 .f32 := shapeCast S128x1 (multiReduction .add [1] S128 p 0x00000000#32 reduces_S128x128_S128 (.inl rfl) rfl) shapeCasts_S128_S128x1
  have o : FVec F S128x64 .f32 := matmul dot_S128x128_S128x64_S128x64_1_0_0_1_n_n none (truncf .bf16 p bitsLt_bf16_f32) (shapeCast S128x64 v shapeCasts_S1x128x1x64_S128x64) (constant S128x64 .f32 0x00000000#32)
  have n : FVec F S128x64 .f32 := divf o (broadcastTo S128x64 l broadcasts_S128x1_S128x64)
  matmul dot_S128x64_S64x512_S128x512_1_0_0_1_n_n none (truncf .bf16 n bitsLt_bf16_f32) (shapeCast S64x512 w shapeCasts_S64x512_S64x512) (constant S128x512 .f32 0x00000000#32)

/-- The eight heads of one batch, added from the left onto zero. -/
def heads (q : FVec F S128x512 .f32) (k v : Fin 8 → Vec F S1x128x1x64 .bf16) (w : Fin 8 → Vec F S64x512 .bf16) : FVec F S128x512 .f32 :=
  addf (addf (addf (addf (addf (addf (addf (addf (broadcast S128x512 (Scalar.ofBits .f32 0x00000000#32 : F .f32))
    (head (extractStridedSlice S128x64 ![0, 0] q slices_S128x512_o0_0_S128x64) (k 0) (v 0) (w 0)))
    (head (extractStridedSlice S128x64 ![0, 64] q slices_S128x512_o0_64_S128x64) (k 1) (v 1) (w 1)))
    (head (extractStridedSlice S128x64 ![0, 128] q slices_S128x512_o0_128_S128x64) (k 2) (v 2) (w 2)))
    (head (extractStridedSlice S128x64 ![0, 192] q slices_S128x512_o0_192_S128x64) (k 3) (v 3) (w 3)))
    (head (extractStridedSlice S128x64 ![0, 256] q slices_S128x512_o0_256_S128x64) (k 4) (v 4) (w 4)))
    (head (extractStridedSlice S128x64 ![0, 320] q slices_S128x512_o0_320_S128x64) (k 5) (v 5) (w 5)))
    (head (extractStridedSlice S128x64 ![0, 384] q slices_S128x512_o0_384_S128x64) (k 6) (v 6) (w 6)))
    (head (extractStridedSlice S128x64 ![0, 448] q slices_S128x512_o0_448_S128x64) (k 7) (v 7) (w 7))

theorem a7_eq (I : Inp F) : a7 I = heads (k0_pay2 I.wq (xV 0 I.x)) (fun h => hV 0 h I.k) (fun h => hV 0 h I.v) (fun h => oV h I.wo) := rfl
theorem b7_eq (I : Inp F) : b7 I = heads (k0_pay2 I.wq (xV 1 I.x)) (fun h => hV 1 h I.k) (fun h => hV 1 h I.v) (fun h => oV h I.wo) := rfl

/-- By slots, the partial sums are the same rows regrouped. -/
theorem a8_eq (I : Inp F) : a8 I = shapeCast S8x16x512 (a7 I) shapeCasts_S128x512_S8x16x512 := rfl
theorem b8_eq (I : Inp F) : b8 I = shapeCast S8x16x512 (b7 I) shapeCasts_S128x512_S8x16x512 := rfl

end

/-- The softmax of a row of scores, weighted onto one column of values. -/
def soft (s v : Fin 128 → EReal) : EReal :=
  Ideal.div (∑ j, Ideal.exp (s j - Finset.fold max (Ideal.ofBits FTy.f32 0xFF800000#32) s Finset.univ) * v j)
    (∑ j, Ideal.exp (s j - Finset.fold max (Ideal.ofBits FTy.f32 0xFF800000#32) s Finset.univ))

/-- The scale of the scores. -/
def scale : EReal := Ideal.ofBits FTy.f32 0x3E000000#32

theorem head_apply (qs : FVec Ideal S128x64 .f32) (k v : Vec Ideal S1x128x1x64 .bf16) (w : Vec Ideal S64x512 .bf16) (i : Fin 128) (n : Fin 512) :
    head qs k v w (ix2 i n)
      = ∑ d : Fin 64, soft (fun j => ∑ x : Fin 64, qs (ix2 i x) * scale * k (ix4 0 j 0 x)) (fun j => v (ix4 0 j 0 d)) * w (ix2 d n) := by
  pointwise [head]
  rfl

/-- One head's columns of the queries. -/
def colOf (h : Fin 8) (d : Fin 64) : Fin 512 := ⟨64 * h.val + d.val, by omega⟩

theorem heads_apply (q : FVec Ideal S128x512 .f32) (k v : Fin 8 → Vec Ideal S1x128x1x64 .bf16) (w : Fin 8 → Vec Ideal S64x512 .bf16) (i : Fin 128) (n : Fin 512) :
    heads q k v w (ix2 i n)
      = ∑ h : Fin 8, ∑ d : Fin 64, soft (fun j => ∑ x : Fin 64, q (ix2 i (colOf h x)) * scale * k h (ix4 0 j 0 x)) (fun j => v h (ix4 0 j 0 d)) * w h (ix2 d n) := by
  rw [Fin.sum_univ_eight]
  pointwise [heads]
  simp only [head_apply]
  pointwise
  have e0 : ∀ x : Fin 64, colOf 0 x = ⟨x.val, by omega⟩ := fun x => Fin.ext (Nat.zero_add x.val)
  simp only [e0]
  rfl

end Cert.KernelIdeal.Value
-- ==== Proof.Value.Partial.lean ====
/-
  The entries of one device's partial sums over the extended reals.
-/
module

public import proofs.«01_k».proof.Proof.Value.Head

@[expose] public section

set_option maxRecDepth 16384

noncomputable section

namespace Cert.KernelIdeal.Value

open Cert.KernelIdeal Cert.KernelIdeal.Gen Cert.KernelIdeal.Xch

open Idealize.ShloMosaic
open scoped BigOperators

/-- The queries: row `i` of batch `b`, column `c` of a device's query weights. -/
def query (I : Inp Ideal) (b : Fin 2) (i : Fin 128) (c : Fin 512) : EReal := ∑ t : Fin 512, I.x (ix3 b i t) * I.wq (ix2 t c)

/-- Row `i` of batch `b`, column `n`, of one device's partial sums. -/
def part (I : Inp Ideal) (b : Fin 2) (i : Fin 128) (n : Fin 512) : EReal :=
  ∑ h : Fin 8, ∑ d : Fin 64,
    soft (fun j => ∑ x : Fin 64, query I b i (colOf h x) * scale * I.k (ix4 b j h x)) (fun j => I.v (ix4 b j h d)) * I.wo (ix2 (colOf h d) n)

theorem pay2_apply (I : Inp Ideal) (b : Fin 2) (i : Fin 128) (c : Fin 512) : k0_pay2 I.wq (xV b I.x) (ix2 i c) = query I b i c := by
  pointwise [k0_pay2, k0_pay1]
  rfl

theorem a7_apply (I : Inp Ideal) (i : Fin 128) (n : Fin 512) : a7 I (ix2 i n) = part I 0 i n := by
  rw [a7_eq, heads_apply]
  simp only [pay2_apply]
  rfl
theorem b7_apply (I : Inp Ideal) (i : Fin 128) (n : Fin 512) : b7 I (ix2 i n) = part I 1 i n := by
  rw [b7_eq, heads_apply]
  simp only [pay2_apply]
  rfl

/-- The batch that slot `s` belongs to. -/
def batchOf (s : Fin 16) : Fin 2 := ⟨s.val / 8, by omega⟩
/-- The row of its batch that row `r` of slot `s` is. -/
def rowOf (s : Fin 16) (r : Fin 16) : Fin 128 := ⟨s.val % 8 * 16 + r.val, by omega⟩

theorem pay20_apply (v : FVec Ideal S128x512 .f32) (s : Fin 8) (r : Fin 16) (n : Fin 512) :
    k0_pay20 (shapeCast S8x16x512 v shapeCasts_S128x512_S8x16x512) (ix3 s r n) = v (ix2 ⟨s.val * 16 + r.val, by omega⟩ n) := by
  pointwise [k0_pay20]
theorem pay40_apply (v : FVec Ideal S128x512 .f32) (s : Fin 8) (r : Fin 16) (n : Fin 512) :
    k0_pay40 (shapeCast S8x16x512 v shapeCasts_S128x512_S8x16x512) (ix3 s r n) = v (ix2 ⟨s.val * 16 + r.val, by omega⟩ n) := by
  pointwise [k0_pay40]
theorem pay21_apply (v : FVec Ideal S128x512 .f32) (s : Fin 8) (r : Fin 16) (n : Fin 512) :
    k0_pay21 v (ix3 s r n) = v (ix2 ⟨s.val * 16 + r.val, by omega⟩ n) := by
  pointwise [k0_pay21]
theorem pay41_apply (v : FVec Ideal S128x512 .f32) (s : Fin 8) (r : Fin 16) (n : Fin 512) :
    k0_pay41 v (ix3 s r n) = v (ix2 ⟨s.val * 16 + r.val, by omega⟩ n) := by
  pointwise [k0_pay41]

/-- Two halves read at a slot: the batch is the half, and the row is counted from the half's start. -/
theorem halves_rows {e : EltTy} (a b : S8x16x512.Idx → Elt Ideal e) (f : Fin 2 → Fin 128 → Fin 512 → Elt Ideal e)
    (ha : ∀ (s : Fin 8) (r : Fin 16) (n : Fin 512), a (ix3 s r n) = f 0 ⟨s.val * 16 + r.val, by omega⟩ n)
    (hb : ∀ (s : Fin 8) (r : Fin 16) (n : Fin 512), b (ix3 s r n) = f 1 ⟨s.val * 16 + r.val, by omega⟩ n)
    (s : Fin 16) (r : Fin 16) (n : Fin 512) : halves a b (ix3 s r n) = f (batchOf s) (rowOf s r) n := by
  by_cases h : s.val < 8
  · refine (dif_pos h).trans ((ha ⟨s.val, h⟩ r n).trans ?_)
    have e0 : batchOf s = 0 := Fin.ext (Nat.div_eq_of_lt h)
    have e1 : rowOf s r = ⟨s.val * 16 + r.val, by omega⟩ := Fin.ext (by show s.val % 8 * 16 + r.val = _; rw [Nat.mod_eq_of_lt h])
    rw [e0, e1]
  · refine (dif_neg h).trans ((hb ⟨s.val - 8, by omega⟩ r n).trans ?_)
    have e0 : batchOf s = 1 := Fin.ext (by show s.val / 8 = 1; omega)
    have e1 : rowOf s r = ⟨(s.val - 8) * 16 + r.val, by omega⟩ := Fin.ext (by show s.val % 8 * 16 + r.val = _; congr 2; omega)
    rw [e0, e1]

theorem sums_apply (I : Inp Ideal) (s : Fin 16) (r : Fin 16) (n : Fin 512) : sums I (ix3 s r n) = part I (batchOf s) (rowOf s r) n :=
  halves_rows (e := .f32) _ _ (part I) (fun s r n => by rw [a8_eq, pay20_apply, a7_apply]) (fun s r n => by rw [b8_eq, pay40_apply, b7_apply]) s r n
theorem sent_apply (I : Inp Ideal) (s : Fin 16) (r : Fin 16) (n : Fin 512) : sent I (ix3 s r n) = part I (batchOf s) (rowOf s r) n :=
  halves_rows (e := .bf16) _ _ (part I) (fun s r n => by rw [pay21_apply, a7_apply]) (fun s r n => by rw [pay41_apply, b7_apply]) s r n

end Cert.KernelIdeal.Value
-- ==== Proof.Value.Chunk.lean ====
/-
  The entries of the result over the extended reals: the partial sums added over the devices.
-/
module

public import proofs.«01_k».proof.Proof.Value.Partial

@[expose] public section

set_option maxRecDepth 16384

noncomputable section

namespace Cert.KernelIdeal.Value

open Cert.KernelIdeal Cert.KernelIdeal.Gen Cert.KernelIdeal.Xch

open Idealize.ShloMosaic
open scoped BigOperators

variable (inp : Dev nD → Inp Ideal)

/-- Row `r`, column `n` of slot `s`, added over the devices. -/
def total (s : Fin 16) (r : Fin 16) (n : Fin 512) : EReal := ∑ e : Dev nD, part (inp e) (batchOf s) (rowOf s r) n

/-- The peers of `c` are the devices, each once. -/
def peers (c : Dev nD) : Fin 16 ≃ Dev nD :=
  Equiv.ofBijective (fun o => pr c o.val)
    ((Fintype.bijective_iff_injective_and_card _).2 ⟨fun o o' h => pr_ne_fin c o o' h, rfl⟩)

theorem land_apply (c : Dev nD) {k : ℕ} (hk : k < 16) (r : Fin 16) (n : Fin 512) :
    land inp c k hk (ix3 0 r n) = part (inp (pr c k)) (batchOf c) (rowOf c r) n := sent_apply (inp (pr c k)) c r n

theorem rdF_apply (c : Dev nD) (r : Fin 16) (n : Fin 512) : rdF inp c (ix2 r n) = total inp c r n := by
  have h : total inp c r n = ∑ o : Fin 16, part (inp (pr c o.val)) (batchOf c) (rowOf c r) n := ((peers c).sum_comp _).symm
  rw [h]
  have e0 : slotVal c.val c.isLt (sums (inp c)) (ix3 0 r n) = part (inp (pr c 0)) (batchOf c) (rowOf c r) n := by
    rw [pr_zero]
    exact sums_apply (inp c) c r n
  pointwise [rdF, s14, s12, s9, s7, s5, s2, s0, k0_pay42, k0_pay43, k0_pay44, k0_pay45, k0_pay46, k0_pay47, k0_pay48, k0_pay49]
  rw [e0, Fin.sum_univ_eq_sum_range (fun o => part (inp (pr c o)) (batchOf c) (rowOf c r) n) 16]
  simp only [land_apply, Finset.sum_range_succ, Finset.sum_range_zero, zero_add]

theorem AA_apply (c : Dev nD) (r : Fin 16) (n : Fin 512) : AA inp c (ix2 r n) = total inp c r n := by
  rw [← rdF_apply]
  pointwise [AA, rdF, k0_pay50]

theorem pay51_apply (v : FVec Ideal S16x512 .f32) (r : Fin 16) (n : Fin 512) : k0_pay51 v (ix3 0 r n) = v (ix2 r n) := by
  pointwise [k0_pay51]
theorem pay52_apply (v : FVec Ideal S1x16x512 .bf16) (r : Fin 16) (n : Fin 512) : (k0_pay52 (F := Ideal) v (ix3 0 r n) : EReal) = v (ix3 0 r n) := by
  pointwise [k0_pay52]

/-- Every device's result, entry by entry: the partial sums added over the devices. -/
theorem RES_apply (c : Dev nD) (s : Fin 16) (r : Fin 16) (n : Fin 512) : RES inp c (ix3 s r n) = total inp s r n := by
  by_cases h : slotDev (ix3 s r n) = c
  · refine (if_pos h).trans ((pay51_apply (rdF inp c) r n).trans ((rdF_apply inp c r n).trans ?_))
    rw [← h]
    rfl
  · exact (if_neg h).trans ((pay52_apply (chunkVal (AA inp s)) r n).trans (AA_apply inp s r n))

end Cert.KernelIdeal.Value
-- ==== Proof.Value.Ref.lean ====
/-
  The reference's result, stage by stage, and its entries over the extended reals.
-/
module

public import proofs.«01_k».proof.Proof.Gen.ReferenceIdeal.Run
public import Idealize.ShloMosaic.Lib.Pointwise

@[expose] public section

set_option maxRecDepth 16384

noncomputable section

namespace Cert.ReferenceIdeal.Read

open Cert.ReferenceIdeal Cert.ReferenceIdeal.Gen

open Idealize.ShloMosaic Idealize.ShloMosaic.TcCoe Idealize.SL.Sem
open scoped BigOperators

section
variable {F : FTy → Type} [FloatOps F]

/-- The scaled scores. -/
def scores (x : FVec F S2x128x512 .bf16) (wq : FVec F S512x8192 .bf16) (k : FVec F S2x128x128x64 .bf16) : FVec F S2x128x128x128 .f32 :=
  mulf (Host.dotGeneral dot_S2x128x128x64_S2x128x128x64_S2x128x128x128_3_3_1_1_02_02 none
      (shapeCast S2x128x128x64 (Host.dotGeneral dot_S2x128x512_S512x8192_S2x128x8192_2_0_01_1_n_n none (extf .f32 x bitsLt_bf16_f32) (extf .f32 wq bitsLt_bf16_f32))
        shapeCasts_S2x128x8192_S2x128x128x64)
      (extf .f32 k bitsLt_bf16_f32))
    (broadcastInDim S2x128x128x128 ![] bcast_S_S2x128x128x128 (constant S_ .f32 0x3E000000#32))

/-- Each row's maximum. -/
def rowMax (s : FVec F S2x128x128x128 .f32) : FVec F S2x128x128 .f32 :=
  Host.reduce FloatOps.maximumf s (constant S_ .f32 0xFF800000#32) reducesTo_S2x128x128x128_S2x128x128_d3 h_S_

/-- The running maximum after the one block of keys, from the rows' maxima. -/
def topOf (M : FVec F S2x128x128 .f32) : FVec F S2x128x128x1 .f32 :=
  maximumf (broadcastInDim S2x128x128x1 ![] bcast_S_S2x128x128x1 (constant S_ .f32 0xFF800000#32))
    (broadcastInDim S2x128x128x1 ![0, 1, 2] bcast_S2x128x128_S2x128x128x1_0_1_2 M)
def top (s : FVec F S2x128x128x128 .f32) : FVec F S2x128x128x1 .f32 := topOf (rowMax s)

/-- The factor by which the block rescales what came before it. -/
def alpha (s : FVec F S2x128x128x128 .f32) : FVec F S2x128x128x1 .f32 :=
  Host.exp (subf (broadcastInDim S2x128x128x1 ![] bcast_S_S2x128x128x1 (constant S_ .f32 0xFF800000#32)) (top s))

/-- The exponentials of the scores. -/
def exps (s : FVec F S2x128x128x128 .f32) : FVec F S2x128x128x128 .f32 :=
  Host.exp (subf s (broadcastInDim S2x128x128x128 ![0, 1, 2, 3] bcast_S2x128x128x1_S2x128x128x128_0_1_2_3 (top s)))

/-- The sums of the exponentials. -/
def norms (s : FVec F S2x128x128x128 .f32) : FVec F S2x128x128x1 .f32 :=
  addf (mulf (broadcastInDim S2x128x128x1 ![] bcast_S_S2x128x128x1 (constant S_ .f32 0x00000000#32)) (alpha s))
    (broadcastInDim S2x128x128x1 ![0, 1, 2] bcast_S2x128x128_S2x128x128x1_0_1_2
      (Host.reduceAdd (exps s) (constant S_ .f32 0x00000000#32) reducesTo_S2x128x128x128_S2x128x128_d3 h_S_))

/-- The weighted values before the division. -/
def weighted (s : FVec F S2x128x128x128 .f32) (v : FVec F S2x128x128x64 .bf16) : FVec F S2x128x128x64 .f32 :=
  addf (mulf (broadcastInDim S2x128x128x64 ![] bcast_S_S2x128x128x64 (constant S_ .f32 0x00000000#32))
      (broadcastInDim S2x128x128x64 ![0, 1, 2, 3] bcast_S2x128x128x1_S2x128x128x64_0_1_2_3
        (transpose S2x128x128x1 [0, 2, 1, 3] (alpha s) transposes_S2x128x128x1_S2x128x128x1_0_2_1_3)))
    (transpose S2x128x128x64 [0, 3, 1, 2]
      (Host.dotGeneral dot_S2x128x128x64_S2x128x128x128_S2x128x64x128_1_3_3_2_02_01 none (extf .f32 v bitsLt_bf16_f32) (exps s))
      transposes_S2x128x64x128_S2x128x128x64_0_3_1_2)

/-- The attention: the weighted values over the sums. -/
def attn (s : FVec F S2x128x128x128 .f32) (v : FVec F S2x128x128x64 .bf16) : FVec F S2x128x128x64 .f32 :=
  Host.divf (weighted s v)
    (broadcastInDim S2x128x128x64 ![0, 1, 2, 3] bcast_S2x128x128x1_S2x128x128x64_0_1_2_3
      (transpose S2x128x128x1 [0, 2, 1, 3] (norms s) transposes_S2x128x128x1_S2x128x128x1_0_2_1_3))

/-- The result. -/
def result (x : FVec F S2x128x512 .bf16) (wq : FVec F S512x8192 .bf16) (k v : FVec F S2x128x128x64 .bf16) (wo : FVec F S8192x512 .bf16) : FVec F S16x16x512 .f32 :=
  shapeCast S16x16x512 (Host.dotGeneral dot_S2x128x8192_S8192x512_S2x128x512_2_0_01_1_n_n none
    (shapeCast S2x128x8192 (attn (scores x wq k) v) shapeCasts_S2x128x128x64_S2x128x8192) (extf .f32 wo bitsLt_bf16_f32)) shapeCasts_S2x128x512_S16x16x512

theorem res_eq (m : (ℓ : Loc nD τ sig) → Buf (Elt F) ℓ) (c : Dev nD) :
    Value.res_main_v36 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end

/-! ## Entries over the extended reals -/

/-- The reference's query columns: those of head `h`. -/
def wide (h : Fin 128) (d : Fin 64) : Fin 8192 := ⟨h.val * 64 + d.val, by omega⟩

theorem scores_apply (x : FVec Ideal S2x128x512 .bf16) (wq : FVec Ideal S512x8192 .bf16) (k : FVec Ideal S2x128x128x64 .bf16)
    (b : Fin 2) (h i j : Fin 128) :
    scores x wq k (ix4 b h i j)
      = (∑ d : Fin 64, (∑ t : Fin 512, x (ix3 b i t) * wq (ix2 t (wide h d))) * k (ix4 b j h d)) * Ideal.ofBits FTy.f32 0x3E000000#32 := by
  pointwise [scores]
  rfl

/-- The host's maximum over the last of four axes. -/
theorem max_last {A B C D : ℕ} (x : FVec Ideal ⟨4, ![A, B, C, D]⟩ .f32) (h' : (⟨4, ![A, B, C, D]⟩ : Shape).ReducesTo [3] (⟨3, ![A, B, C]⟩ : Shape))
    (h : (⟨4, ![A, B, C, D]⟩ : Shape).Reduces [3] (⟨3, ![A, B, C]⟩ : Shape)) (hu : 0 < S_.numel) (w : BitVec 32) (a : Fin A) (b : Fin B) (c : Fin C) :
    Host.reduce FloatOps.maximumf x (constant S_ .f32 w) h' hu (ix3 a b c)
      = Finset.fold max (Ideal.ofBits FTy.f32 w) (fun d : Fin D => x (ix4 a b c d)) Finset.univ := by
  rw [Host.reduce_eq_fold_single FloatOps.maximumf x _ h' h hu]
  have hf : (x ∘ h.lift (ix3 a b c)) = fun d : Fin D => x (ix4 a b c d) :=
    funext fun d => congrArg x (funext fun y => Fin.ext (by fin_cases y <;> rfl))
  exact congrArg (fun f => Finset.fold max (Ideal.ofBits .f32 w) f (Finset.univ : Finset (Fin D))) hf

theorem rowMax_apply (s : FVec Ideal S2x128x128x128 .f32) (b : Fin 2) (h i : Fin 128) :
    rowMax s (ix3 b h i) = Finset.fold max (Ideal.ofBits FTy.f32 0xFF800000#32) (fun j => s (ix4 b h i j)) Finset.univ :=
  max_last s _ (by decide) _ _ b h i

theorem topOf_apply (M : FVec Ideal S2x128x128 .f32) (b : Fin 2) (h i : Fin 128) :
    topOf M (ix4 b h i 0) = max (Ideal.ofBits FTy.f32 0xFF800000#32) (M (ix3 b h i)) := by
  pointwise [topOf]

theorem top_apply (s : FVec Ideal S2x128x128x128 .f32) (b : Fin 2) (h i : Fin 128) :
    top s (ix4 b h i 0) = Finset.fold max (Ideal.ofBits FTy.f32 0xFF800000#32) (fun j => s (ix4 b h i j)) Finset.univ :=
  (topOf_apply (rowMax s) b h i).trans
    ((congrArg (max _) (rowMax_apply s b h i)).trans (max_eq_right (Finset.le_fold_max _ |>.2 (Or.inl le_rfl))))

theorem exps_apply (s : FVec Ideal S2x128x128x128 .f32) (b : Fin 2) (h i j : Fin 128) :
    exps s (ix4 b h i j) = Ideal.exp (s (ix4 b h i j) - Finset.fold max (Ideal.ofBits FTy.f32 0xFF800000#32) (fun j => s (ix4 b h i j)) Finset.univ) := by
  rw [← top_apply]
  pointwise [exps]

theorem norms_apply (s : FVec Ideal S2x128x128x128 .f32) (b : Fin 2) (h i : Fin 128) :
    norms s (ix4 b h i 0) = ∑ j, exps s (ix4 b h i j) := by
  pointwise [norms]
  rw [zero_mul, zero_add]

theorem weighted_apply (s : FVec Ideal S2x128x128x128 .f32) (v : FVec Ideal S2x128x128x64 .bf16) (b : Fin 2) (h i : Fin 128) (d : Fin 64) :
    weighted s v (ix4 b i h d) = ∑ j, exps s (ix4 b h i j) * v (ix4 b j h d) := by
  pointwise [weighted]
  rw [zero_mul, zero_add]
  exact Finset.sum_congr rfl fun j _ => mul_comm _ _

theorem attn_apply (s : FVec Ideal S2x128x128x128 .f32) (v : FVec Ideal S2x128x128x64 .bf16) (b : Fin 2) (h i : Fin 128) (d : Fin 64) :
    attn s v (ix4 b i h d) = Ideal.div (weighted s v (ix4 b i h d)) (norms s (ix4 b h i 0)) := by
  pointwise [attn]

theorem result_apply (x : FVec Ideal S2x128x512 .bf16) (wq : FVec Ideal S512x8192 .bf16) (k v : FVec Ideal S2x128x128x64 .bf16) (wo : FVec Ideal S8192x512 .bf16)
    (s r : Fin 16) (n : Fin 512) :
    result x wq k v wo (ix3 s r n)
      = ∑ c : Fin 8192, attn (scores x wq k) v
          (ix4 (⟨s.val / 8, by omega⟩ : Fin 2) (⟨s.val % 8 * 16 + r.val, by omega⟩ : Fin 128) (⟨c.val / 64, by omega⟩ : Fin 128) (⟨c.val % 64, by omega⟩ : Fin 64))
          * wo (ix2 c n) := by
  pointwise [result]

end Cert.ReferenceIdeal.Read
-- ==== Proof.Value.Join.lean ====
/-
  The kernel's entries are the reference's: the devices' heads, taken together, are the heads of the whole arrays.
-/
module

public import proofs.«01_k».proof.Proof.Value.Chunk
public import proofs.«01_k».proof.Proof.Value.Ref

@[expose] public section

set_option maxRecDepth 16384

noncomputable section

namespace Cert.KernelIdeal.Value

open Cert.KernelIdeal Cert.KernelIdeal.Gen Cert.KernelIdeal.Xch

open Idealize.ShloMosaic
open scoped BigOperators

/-! ## Sums -/

/-- A sum over a product of extents, in two nested sums. -/
theorem sum_split {m n N : ℕ} (h : m * n = N) (f : Fin N → EReal) :
    ∑ c : Fin N, f c = ∑ a : Fin m, ∑ b : Fin n, f ⟨a.val * n + b.val, by
      have h1 : (a.val + 1) * n ≤ m * n := Nat.mul_le_mul_right n a.isLt
      have h2 := b.isLt
      rw [Nat.add_mul, Nat.one_mul] at h1; omega⟩ := by
  subst h
  rw [← finProdFinEquiv.sum_comp, Fintype.sum_prod_type]
  refine Finset.sum_congr rfl fun a _ => Finset.sum_congr rfl fun b _ => congrArg f (Fin.ext ?_)
  show b.val + n * a.val = a.val * n + b.val
  rw [Nat.mul_comm, Nat.add_comm]

/-- The scale is one eighth. -/
theorem scale_eq : scale = (((1 : ℝ) / 8 : ℝ) : EReal) := by
  simp [scale, Ideal.ofBits, Ideal.ieee, -EReal.coe_mul]; norm_num

/-- A sum times the scale is the sum of the terms times the scale: the scale is neither negative nor infinite. -/
theorem sum_scale {n : ℕ} (f : Fin n → EReal) : (∑ d, f d) * scale = ∑ d, f d * scale := by
  have h0 : (0 : EReal) ≤ scale := by rw [scale_eq]; exact EReal.coe_nonneg.2 (by norm_num)
  have h1 : scale ≠ ⊤ := by rw [scale_eq]; exact EReal.coe_ne_top _
  have key : ∀ s : Finset (Fin n), (∑ d ∈ s, f d) * scale = ∑ d ∈ s, f d * scale := by
    intro s
    induction s using Finset.induction_on with
    | empty => simp
    | insert a s ha ih =>
      rw [Finset.sum_insert ha, Finset.sum_insert ha, mul_comm, EReal.left_distrib_of_nonneg_of_ne_top h0 h1, mul_comm scale, mul_comm scale, ih]
  exact key Finset.univ

/-! ## The blocks -/

/-- Head `h` of device `e`, numbered over all the devices. -/
def headOf (e : Dev nD) (h : Fin 8) : Fin 128 := ⟨e.val * 8 + h.val, by have : e.val < 16 := e.isLt; omega⟩

theorem wq_block (e : Dev nD) (w : (⟨2, ![512, 8192]⟩ : Shape).Idx → EReal) (t : Fin 512) (h : Fin 8) (d : Fin 64) :
    Layout.block ⟨2, ![512, 512]⟩ ⟨2, ![512, 8192]⟩ 1 16 e w (by decide) (ix2 t (colOf h d)) = w (ix2 t (Cert.ReferenceIdeal.Read.wide (headOf e h) d)) := by
  rw [Layout.block_apply]
  refine congrArg w (funext fun a => Fin.ext ?_)
  rw [Layout.Tiles.idx_val]
  fin_cases a
  · rfl
  · show e.val * 512 + (64 * h.val + d.val) = (e.val * 8 + h.val) * 64 + d.val
    omega

theorem wo_block (e : Dev nD) (w : (⟨2, ![8192, 512]⟩ : Shape).Idx → EReal) (h : Fin 8) (d : Fin 64) (n : Fin 512) :
    Layout.block ⟨2, ![512, 512]⟩ ⟨2, ![8192, 512]⟩ 0 16 e w (by decide) (ix2 (colOf h d) n) = w (ix2 (Cert.ReferenceIdeal.Read.wide (headOf e h) d) n) := by
  rw [Layout.block_apply]
  refine congrArg w (funext fun a => Fin.ext ?_)
  rw [Layout.Tiles.idx_val]
  fin_cases a
  · show e.val * 512 + (64 * h.val + d.val) = (e.val * 8 + h.val) * 64 + d.val
    omega
  · rfl

theorem kv_block (e : Dev nD) (w : (⟨4, ![2, 128, 128, 64]⟩ : Shape).Idx → EReal) (b : Fin 2) (j : Fin 128) (h : Fin 8) (d : Fin 64) :
    Layout.block ⟨4, ![2, 128, 8, 64]⟩ ⟨4, ![2, 128, 128, 64]⟩ 2 16 e w (by decide) (ix4 b j h d) = w (ix4 b j (headOf e h) d) := by
  rw [Layout.block_apply]
  refine congrArg w (funext fun a => Fin.ext ?_)
  rw [Layout.Tiles.idx_val]
  fin_cases a
  · rfl
  · rfl
  · rfl
  · rfl

/-! ## The two sides -/

open Cert.ReferenceIdeal.Read in
/-- Where every device's arguments are its blocks of the whole arrays, the partial sums added over the devices are the reference's result. -/
theorem total_eq (inp : Dev nD → Inp Ideal) (x : FVec Ideal Cert.ReferenceIdeal.S2x128x512 .bf16) (wq : FVec Ideal Cert.ReferenceIdeal.S512x8192 .bf16)
    (k v : FVec Ideal Cert.ReferenceIdeal.S2x128x128x64 .bf16) (wo : FVec Ideal Cert.ReferenceIdeal.S8192x512 .bf16)
    (hx : ∀ e, (inp e).x = x)
    (hwq : ∀ e, (inp e).wq = Layout.block ⟨2, ![512, 512]⟩ ⟨2, ![512, 8192]⟩ 1 16 e wq (by decide))
    (hk : ∀ e, (inp e).k = Layout.block ⟨4, ![2, 128, 8, 64]⟩ ⟨4, ![2, 128, 128, 64]⟩ 2 16 e k (by decide))
    (hv : ∀ e, (inp e).v = Layout.block ⟨4, ![2, 128, 8, 64]⟩ ⟨4, ![2, 128, 128, 64]⟩ 2 16 e v (by decide))
    (hwo : ∀ e, (inp e).wo = Layout.block ⟨2, ![512, 512]⟩ ⟨2, ![8192, 512]⟩ 0 16 e wo (by decide))
    (s r : Fin 16) (n : Fin 512) : total inp s r n = result x wq k v wo (ix3 s r n) := by
  rw [result_apply, sum_split (show 128 * 64 = 8192 by decide), sum_split (show 16 * 8 = 128 by decide)]
  refine Finset.sum_congr rfl fun e _ => Finset.sum_congr rfl fun h _ => Finset.sum_congr rfl fun d _ => ?_
  have hq : ∀ y : Fin 64, query (inp e) (batchOf s) (rowOf s r) (colOf h y) = ∑ t : Fin 512, x (ix3 (batchOf s) (rowOf s r) t) * wq (ix2 t (wide (headOf e h) y)) := by
    intro y
    refine Finset.sum_congr rfl fun t _ => ?_
    rw [hx, hwq]
    exact congrArg _ (wq_block e wq t h y)
  have hs : ∀ j : Fin 128, (∑ y : Fin 64, query (inp e) (batchOf s) (rowOf s r) (colOf h y) * scale * (inp e).k (ix4 (batchOf s) j h y))
      = scores x wq k (ix4 (batchOf s) (headOf e h) (rowOf s r) j) := by
    intro j
    rw [scores_apply]
    refine Eq.trans ?_ (sum_scale _).symm
    refine Finset.sum_congr rfl fun y _ => ?_
    rw [hq, hk, kv_block]
    exact mul_right_comm _ _ _
  have hvj : ∀ j : Fin 128, (inp e).v (ix4 (batchOf s) j h d) = v (ix4 (batchOf s) j (headOf e h) d) := by
    intro j; rw [hv]; exact kv_block e v (batchOf s) j h d
  have hw : (inp e).wo (ix2 (colOf h d) n) = wo (ix2 (wide (headOf e h) d) n) := by
    rw [hwo]; exact wo_block e wo h d n
  have hi : ((ix4 (⟨s.val / 8, by omega⟩ : Fin 2) (⟨s.val % 8 * 16 + r.val, by omega⟩ : Fin 128)
      (⟨((e.val * 8 + h.val) * 64 + d.val) / 64, by have := h.isLt; have := d.isLt; have : e.val < 16 := e.isLt; omega⟩ : Fin 128)
      (⟨((e.val * 8 + h.val) * 64 + d.val) % 64, by omega⟩ : Fin 64) : Cert.ReferenceIdeal.S2x128x128x64.Idx))
      = ix4 (batchOf s) (rowOf s r) (headOf e h) d := by
    have e1 : ((e.val * 8 + h.val) * 64 + d.val) / 64 = e.val * 8 + h.val := by have := d.isLt; omega
    have e2 : ((e.val * 8 + h.val) * 64 + d.val) % 64 = d.val := by have := d.isLt; omega
    simp only [e1, e2]
    rfl
  simp only [hs, hvj, hw]
  refine congrArg₂ (· * ·) ?_ rfl
  refine Eq.trans ?_ (congrArg (attn (scores x wq k) v) hi).symm
  rw [attn_apply, weighted_apply, norms_apply]
  simp only [exps_apply]
  rfl

end Cert.KernelIdeal.Value
-- ==== Proof.Value.Claim.lean ====
/-
  Every device's result is the reference's.
-/
module

public import proofs.«01_k».proof.Proof.Value.Join
public import proofs.«01_k».proof.Proof.KernelIdeal.Launch
public import proofs.«01_k».proof.Defs

@[expose] public section

set_option maxRecDepth 16384

noncomputable section

namespace Cert.KernelIdeal.Value

open Cert.KernelIdeal Cert.KernelIdeal.Gen Cert.KernelIdeal.Xch

open Idealize.ShloMosaic Idealize.ShloMosaic.TcCoe Idealize.SL.Sem

/-- Where every device's arguments are its blocks of the whole arrays, every device's result is the reference's. -/
theorem RES_eq (inp : Dev nD → Inp Ideal) (x : FVec Ideal Cert.ReferenceIdeal.S2x128x512 .bf16) (wq : FVec Ideal Cert.ReferenceIdeal.S512x8192 .bf16)
    (k v : FVec Ideal Cert.ReferenceIdeal.S2x128x128x64 .bf16) (wo : FVec Ideal Cert.ReferenceIdeal.S8192x512 .bf16)
    (hx : ∀ e, (inp e).x = x)
    (hwq : ∀ e, (inp e).wq = Layout.block ⟨2, ![512, 512]⟩ ⟨2, ![512, 8192]⟩ 1 16 e wq (by decide))
    (hk : ∀ e, (inp e).k = Layout.block ⟨4, ![2, 128, 8, 64]⟩ ⟨4, ![2, 128, 128, 64]⟩ 2 16 e k (by decide))
    (hv : ∀ e, (inp e).v = Layout.block ⟨4, ![2, 128, 8, 64]⟩ ⟨4, ![2, 128, 128, 64]⟩ 2 16 e v (by decide))
    (hwo : ∀ e, (inp e).wo = Layout.block ⟨2, ![512, 512]⟩ ⟨2, ![8192, 512]⟩ 0 16 e wo (by decide))
    (c : Dev nD) : RES inp c = Cert.ReferenceIdeal.Read.result x wq k v wo := by
  funext i
  rw [eq_ix3 i]
  exact (RES_apply inp c (i 0) (i 1) (i 2)).trans (total_eq inp x wq k v wo hx hwq hk hv hwo (i 0) (i 1) (i 2))

theorem algebraic : Cert.algebraic_KernelIdeal_ReferenceIdeal (hKernelIdeal := Cert.KernelIdeal.Gen.facts) (hReferenceIdeal := Cert.ReferenceIdeal.Gen.facts) := by
  intro m g m' g' _ hin
  have hres : ∀ c : Dev nD, RES (inp m) c = Cert.ReferenceIdeal.Value.res_main_v36 m' 0 := fun c =>
    (RES_eq (inp m) _ _ _ _ _ (fun e => (hin e).1) (fun e => (hin e).2.1) (fun e => (hin e).2.2.1) (fun e => (hin e).2.2.2.1)
      (fun e => (hin e).2.2.2.2) c).trans (Cert.ReferenceIdeal.Read.res_eq m' 0).symm
  exact ⟨Cert.ReferenceIdeal.Value.res_main_v36 m' 0,
    (θ_run _ _ _).mono (fun r h c => ⟨(h.1 c).2.trans (hres c), (h.1 c).1⟩) (run_main (F := Ideal) m g),
    (θ_run _ _ _).mono (fun r h => h 0) (Cert.ReferenceIdeal.Value.run (F := Ideal) m' g')⟩

end Cert.KernelIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => (θ_run _ _ _).mono (fun _ h => ⟨fun c => (h.1 c).1, h.2⟩) (Cert.Kernel.Xch.run_main (F := Bits) m g),
  fun m g _ => (θ_run _ _ _).mono (fun _ h => ⟨fun c => (h.1 c).1, h.2⟩) (Cert.KernelIdeal.Xch.run_main (F := Ideal) m g),
  fun m g _ => (θ_run _ _ _).mono (fun r h => ⟨fun c => (h c).2, sem_eq_zero_of_no_sems (by decide) r.2⟩) (Cert.ReferenceIdeal.Value.run (F := Ideal) m g),
  trivial, Cert.KernelIdeal.Value.algebraic⟩

end Cert.Proof

end
